-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_and_logits [hPre_labels_and_logits : Cert.Pre_labels_and_logits.Facts] (m : (ℓ : Loc Cert.KernelIdeal.nD Cert.KernelIdeal.τ Cert.KernelIdeal.sig) → Buf (Elt Ideal) ℓ) : Prop :=
  ∀ c : Dev Cert.KernelIdeal.nD,
    (Cert.Pre_labels_and_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_and_logits [hPre_labels_and_logits : Cert.Pre_labels_and_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_and_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_labels_and_logits [hKernelIdeal : Cert.KernelIdeal.Facts] [hPre_labels_and_logits : Cert.Pre_labels_and_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_labels_and_logits [hReferenceIdeal : Cert.ReferenceIdeal.Facts] [hPre_labels_and_logits : Cert.Pre_labels_and_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_and_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "pad_bce" .f32 0x425DCE9E#32 ((80 * (Real.log 2) : ℝ) : EReal)
  ∧ IdealRules.named_const.Statement Cert.KernelIdeal.κ "inv_n" .f32 0x3444A383#32 ((1 / 5460480 : ℝ) : EReal)

def algebraic_KernelIdeal_ReferenceIdeal_pre_labels_and_logits [hKernelIdeal : Cert.KernelIdeal.Facts] [hReferenceIdeal : Cert.ReferenceIdeal.Facts] [hPre_labels_and_logits : Cert.Pre_labels_and_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_and_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v183) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_labels_and_logits : Cert.Pre_labels_and_logits.Facts),
    quiescent_Kernel (hKernel := hKernel)
    ∧ quiescent_KernelIdeal (hKernelIdeal := hKernelIdeal)
    ∧ quiescent_KernelIdeal_pre_labels_and_logits (hKernelIdeal := hKernelIdeal) (hPre_labels_and_logits := hPre_labels_and_logits)
    ∧ quiescent_ReferenceIdeal (hReferenceIdeal := hReferenceIdeal)
    ∧ quiescent_ReferenceIdeal_pre_labels_and_logits (hReferenceIdeal := hReferenceIdeal) (hPre_labels_and_logits := hPre_labels_and_logits)
    ∧ preserves_Kernel_KernelIdeal
    ∧ algebraic_KernelIdeal_ReferenceIdeal_pre_labels_and_logits (hKernelIdeal := hKernelIdeal) (hReferenceIdeal := hReferenceIdeal) (hPre_labels_and_logits := hPre_labels_and_logits)
-- ==== Pre_labels_and_logits.lean ====
abbrev S17064x2 : Shape := ⟨2, ![17064, 2]⟩
abbrev S4x17064x80 : Shape := ⟨3, ![4, 17064, 80]⟩
abbrev S4x17064x4 : Shape := ⟨3, ![4, 17064, 4]⟩
abbrev S4x17064 : Shape := ⟨2, ![4, 17064]⟩
abbrev S4x50x4 : Shape := ⟨3, ![4, 50, 4]⟩
abbrev S4x50 : Shape := ⟨2, ![4, 50]⟩
abbrev S_ : Shape := ⟨0, ![]⟩

class Facts : Prop where
  bcast_S_S4x50 : S_.BroadcastsInDim S4x50 (![] : Fin 0 → Fin S4x50.rank)
  reducesTo_S4x50_S_d0_1 : S4x50.ReducesTo [0, 1] S_
  h_S_ : 0 < S_.numel
  bcast_S_S4x17064x80 : S_.BroadcastsInDim S4x17064x80 (![] : Fin 0 → Fin S4x17064x80.rank)
  reducesTo_S4x17064x80_S_d0_1_2 : S4x17064x80.ReducesTo [0, 1, 2] S_

variable [Facts]

def fn {F : FTy → Type} [FloatOps F] (main_arg0 : FVec F S17064x2 .f32) (main_arg1 : FVec F S4x17064x80 .f32) (main_arg2 : FVec F S4x17064x4 .f32) (main_arg3 : FVec F S4x17064 .f32) (main_arg4 : FVec F S4x50x4 .f32) (main_arg5 : IVec S4x50 32) (main_arg6 : FVec F S4x50 .f32) : IVec S_ 1 :=
  let main_c : IVec S_ 32 := constantI S_ 32 1#32
  let main_v0 : IVec S4x50 32 := broadcastInDim S4x50 ![] bcast_S_S4x50 main_c
  let main_v1 : IVec S4x50 1 := cmpi .sge main_arg5 main_v0
  let main_c_0 : IVec S_ 1 := constantI S_ 1 1#1
  let main_v2 : IVec S_ 1 := (fun x v => Host.reduce IntOp.andi x v reducesTo_S4x50_S_d0_1 h_S_) main_v1 main_c_0
  let main_cst : FVec F S_ .f32 := constant S_ .f32 0xFF800000#32
  let main_v3 : FVec F S4x17064x80 .f32 := broadcastInDim S4x17064x80 ![] bcast_S_S4x17064x80 main_cst
  let main_v4 : IVec S4x17064x80 1 := cmpf .ogt main_arg1 main_v3
  let main_c_1 : IVec S_ 1 := constantI S_ 1 1#1
  let main_v5 : IVec S_ 1 := (fun x v => Host.reduce IntOp.andi x v reducesTo_S4x17064x80_S_d0_1_2 h_S_) main_v4 main_c_1
  let main_v6 : IVec S_ 1 := andi main_v2 main_v5
  main_v6
-- ==== Kernel.lean ====
abbrev S17064x2 : Shape := ⟨2, ![17064, 2]⟩
abbrev S4x17064x80 : Shape := ⟨3, ![4, 17064, 80]⟩
abbrev S4x17064x4 : Shape := ⟨3, ![4, 17064, 4]⟩
abbrev S4x17064 : Shape := ⟨2, ![4, 17064]⟩
abbrev S4x50x4 : Shape := ⟨3, ![4, 50, 4]⟩
abbrev S4x50 : Shape := ⟨2, ![4, 50]⟩
abbrev S2x17064 : Shape := ⟨2, ![2, 17064]⟩
abbrev S4x4x17064 : Shape := ⟨3, ![4, 4, 17064]⟩
abbrev S4x50x1 : Shape := ⟨3, ![4, 50, 1]⟩
abbrev S1x128 : Shape := ⟨2, ![1, 128]⟩
abbrev S1x1 : Shape := ⟨2, ![1, 1]⟩
abbrev S_ : Shape := ⟨0, ![]⟩
abbrev S2x2048 : Shape := ⟨2, ![2, 2048]⟩
abbrev S4x2048x80 : Shape := ⟨3, ![4, 2048, 80]⟩
abbrev S4x4x2048 : Shape := ⟨3, ![4, 4, 2048]⟩
abbrev S4x2048 : Shape := ⟨2, ![4, 2048]⟩
abbrev S4 : Shape := ⟨1, ![4]⟩
abbrev S1 : Shape := ⟨1, ![1]⟩
abbrev S1x2048 : Shape := ⟨2, ![1, 2048]⟩
abbrev S2048x1 : Shape := ⟨2, ![2048, 1]⟩
abbrev S50x1 : Shape := ⟨2, ![50, 1]⟩
abbrev S1x80 : Shape := ⟨2, ![1, 80]⟩
abbrev S1x50x4 : Shape := ⟨3, ![1, 50, 4]⟩
abbrev S50x4 : Shape := ⟨2, ![50, 4]⟩
abbrev S50x2048 : Shape := ⟨2, ![50, 2048]⟩
abbrev S1x50x1 : Shape := ⟨3, ![1, 50, 1]⟩
abbrev S2048 : Shape := ⟨1, ![2048]⟩
abbrev S1x2048x80 : Shape := ⟨3, ![1, 2048, 80]⟩
abbrev S2048x80 : Shape := ⟨2, ![2048, 80]⟩
abbrev S1x1x1 : Shape := ⟨3, ![1, 1, 1]⟩
abbrev S50x80 : Shape := ⟨2, ![50, 80]⟩
abbrev S1x50x80 : Shape := ⟨3, ![1, 50, 80]⟩
abbrev S1x4x2048 : Shape := ⟨3, ![1, 4, 2048]⟩
abbrev S1x1x2048 : Shape := ⟨3, ![1, 1, 2048]⟩

abbrev nBuf : Space → Nat
  | .hbm => 18
  | .vmem => 12
  | .smem => 1
  | _ => 0

abbrev bufTy : (tb : Table) → Fin (tcTables nBuf tb) → BufTy
  | .hbm, ⟨0, _⟩ => ⟨S17064x2, .f32⟩
  | .hbm, ⟨1, _⟩ => ⟨S4x17064x80, .f32⟩
  | .hbm, ⟨2, _⟩ => ⟨S4x17064x4, .f32⟩
  | .hbm, ⟨3, _⟩ => ⟨S4x17064, .f32⟩
  | .hbm, ⟨4, _⟩ => ⟨S4x50x4, .f32⟩
  | .hbm, ⟨5, _⟩ => ⟨S4x50, .i32⟩
  | .hbm, ⟨6, _⟩ => ⟨S4x50, .f32⟩
  | .hbm, ⟨7, _⟩ => ⟨S2x17064, .f32⟩
  | .hbm, ⟨8, _⟩ => ⟨S4x4x17064, .f32⟩
  | .hbm, ⟨9, _⟩ => ⟨S4x50x1, .i32⟩
  | .hbm, ⟨10, _⟩ => ⟨S4x50x1, .f32⟩
  | .hbm, ⟨11, _⟩ => ⟨S1x128, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S_, .f32⟩
  | .local _ .vmem, ⟨0, _⟩ => ⟨S2x2048, .f32⟩
  | .local _ .vmem, ⟨1, _⟩ => ⟨S2x2048, .f32⟩
  | .local _ .vmem, ⟨2, _⟩ => ⟨S4x2048x80, .f32⟩
  | .local _ .vmem, ⟨3, _⟩ => ⟨S4x2048x80, .f32⟩
  | .local _ .vmem, ⟨4, _⟩ => ⟨S4x4x2048, .f32⟩
  | .local _ .vmem, ⟨5, _⟩ => ⟨S4x4x2048, .f32⟩
  | .local _ .vmem, ⟨6, _⟩ => ⟨S4x2048, .f32⟩
  | .local _ .vmem, ⟨7, _⟩ => ⟨S4x2048, .f32⟩
  | .local _ .vmem, ⟨8, _⟩ => ⟨S4x50x4, .f32⟩
  | .local _ .vmem, ⟨9, _⟩ => ⟨S4x50x1, .i32⟩
  | .local _ .vmem, ⟨10, _⟩ => ⟨S4x50x1, .f32⟩
  | .local _ .vmem, ⟨11, _⟩ => ⟨S1x128, .f32⟩
  | .local _ .smem, ⟨0, _⟩ => ⟨S4, .f32⟩
  | _, _ => ⟨S17064x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_v0_0 : Ref sig .tc := ⟨.hbm, 13, rfl⟩
abbrev main_call0_v7 : Ref sig .tc := ⟨.hbm, 14, rfl⟩
abbrev main_v0_1 : Ref sig .tc := ⟨.hbm, 15, rfl⟩
abbrev main_call0_v9 : Ref sig .tc := ⟨.hbm, 16, rfl⟩
abbrev main_v0_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v896 : BitVec 1 := Scalar.cmpi .eq arg0 c8_i32
  let v897 : BitVec 32 := Scalar.extui v896
  let c0_i32_274 : BitVec 32 := 0#32
  let v898 : BitVec 1 := Scalar.cmpi .ne v897 c0_i32_274
  v898

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2048x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x50x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x50x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x50x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv_n" => some ((1 / 5460480 : ℝ) : EReal)
  | "pad_bce" => some ((80 * (Real.log 2) : ℝ) : EReal)
  | _ => none
-- ==== ReferenceIdeal.lean ====
abbrev S17064x2 : Shape := ⟨2, ![17064, 2]⟩
abbrev S4x17064x80 : Shape := ⟨3, ![4, 17064, 80]⟩
abbrev S4x17064x4 : Shape := ⟨3, ![4, 17064, 4]⟩
abbrev S4x17064 : Shape := ⟨2, ![4, 17064]⟩
abbrev S4x50x4 : Shape := ⟨3, ![4, 50, 4]⟩
abbrev S4x50 : Shape := ⟨2, ![4, 50]⟩
abbrev S_ : Shape := ⟨0, ![]⟩
abbrev S12800 : Shape := ⟨1, ![12800]⟩
abbrev S3200 : Shape := ⟨1, ![3200]⟩
abbrev S800 : Shape := ⟨1, ![800]⟩
abbrev S208 : Shape := ⟨1, ![208]⟩
abbrev S56 : Shape := ⟨1, ![56]⟩
abbrev S17064 : Shape := ⟨1, ![17064]⟩
abbrev S1x17064x1 : Shape := ⟨3, ![1, 17064, 1]⟩
abbrev S17064x1 : Shape := ⟨2, ![17064, 1]⟩
abbrev S4x50x1 : Shape := ⟨3, ![4, 50, 1]⟩
abbrev S4x1x50 : Shape := ⟨3, ![4, 1, 50]⟩
abbrev S4x17064x50 : Shape := ⟨3, ![4, 17064, 50]⟩
abbrev S4x17064x1 : Shape := ⟨3, ![4, 17064, 1]⟩
abbrev S50 : Shape := ⟨1, ![50]⟩
abbrev S1x1x50 : Shape := ⟨3, ![1, 1, 50]⟩
abbrev S1 : Shape := ⟨1, ![1]⟩
abbrev S1x1x1 : Shape := ⟨3, ![1, 1, 1]⟩
abbrev S80 : Shape := ⟨1, ![80]⟩
abbrev S1x1x80 : Shape := ⟨3, ![1, 1, 80]⟩
abbrev S4x17064x1x1 : Shape := ⟨4, ![4, 17064, 1, 1]⟩
abbrev S1x1x1x1 : Shape := ⟨4, ![1, 1, 1, 1]⟩

abbrev nBuf : Space → Nat
  | .hbm => 366
  | .vmem => 0
  | .smem => 0
  | _ => 0

abbrev hbmTy0_0 (i : Nat) : BufTy := match i % 128 with
  | 0 => ⟨S17064x2, .f32⟩
  | 1 => ⟨S4x17064x80, .f32⟩
  | 2 => ⟨S4x17064x4, .f32⟩
  | 3 => ⟨S4x17064, .f32⟩
  | 4 => ⟨S4x50x4, .f32⟩
  | 5 => ⟨S4x50, .i32⟩
  | 6 => ⟨S4x50, .f32⟩
  | 7 => ⟨S_, .f32⟩
  | 8 => ⟨S12800, .f32⟩
  | 9 => ⟨S_, .f32⟩
  | 10 => ⟨S3200, .f32⟩
  | 11 => ⟨S_, .f32⟩
  | 12 => ⟨S800, .f32⟩
  | 13 => ⟨S_, .f32⟩
  | 14 => ⟨S208, .f32⟩
  | 15 => ⟨S_, .f32⟩
  | 16 => ⟨S56, .f32⟩
  | 17 => ⟨S17064, .f32⟩
  | 18 => ⟨S1x17064x1, .f32⟩
  | 19 => ⟨S_, .f32⟩
  | 20 => ⟨S12800, .f32⟩
  | 21 => ⟨S_, .f32⟩
  | 22 => ⟨S3200, .f32⟩
  | 23 => ⟨S_, .f32⟩
  | 24 => ⟨S800, .f32⟩
  | 25 => ⟨S_, .f32⟩
  | 26 => ⟨S208, .f32⟩
  | 27 => ⟨S_, .f32⟩
  | 28 => ⟨S56, .f32⟩
  | 29 => ⟨S17064, .f32⟩
  | 30 => ⟨S1x17064x1, .f32⟩
  | 31 => ⟨S17064x1, .f32⟩
  | 32 => ⟨S17064, .f32⟩
  | 33 => ⟨S1x17064x1, .f32⟩
  | 34 => ⟨S17064x1, .f32⟩
  | 35 => ⟨S17064, .f32⟩
  | 36 => ⟨S1x17064x1, .f32⟩
  | 37 => ⟨S4x50x1, .f32⟩
  | 38 => ⟨S4x50, .f32⟩
  | 39 => ⟨S4x1x50, .f32⟩
  | 40 => ⟨S4x17064x50, .f32⟩
  | 41 => ⟨S4x17064x50, .f32⟩
  | 42 => ⟨S4x17064x50, .f32⟩
  | 43 => ⟨S4x50x1, .f32⟩
  | 44 => ⟨S4x50, .f32⟩
  | 45 => ⟨S4x1x50, .f32⟩
  | 46 => ⟨S4x17064x50, .f32⟩
  | 47 => ⟨S4x17064x50, .f32⟩
  | 48 => ⟨S4x17064x50, .f32⟩
  | 49 => ⟨S4x50x1, .f32⟩
  | 50 => ⟨S4x50, .f32⟩
  | 51 => ⟨S4x1x50, .f32⟩
  | 52 => ⟨S4x17064x50, .f32⟩
  | 53 => ⟨S4x17064x50, .f32⟩
  | 54 => ⟨S4x17064x50, .f32⟩
  | 55 => ⟨S4x50x1, .f32⟩
  | 56 => ⟨S4x50, .f32⟩
  | 57 => ⟨S4x1x50, .f32⟩
  | 58 => ⟨S4x17064x50, .f32⟩
  | 59 => ⟨S4x17064x50, .f32⟩
  | 60 => ⟨S4x17064x50, .f32⟩
  | 61 => ⟨S4x17064x50, .f32⟩
  | 62 => ⟨S4x17064x50, .f32⟩
  | 63 => ⟨S4x17064x50, .f32⟩
  | 64 => ⟨S4x17064x50, .f32⟩
  | 65 => ⟨S4x17064x50, .f32⟩
  | 66 => ⟨S4x17064x50, .f32⟩
  | 67 => ⟨S_, .f32⟩
  | 68 => ⟨S4x17064x50, .f32⟩
  | 69 => ⟨S4x17064x50, .i1⟩
  | 70 => ⟨S4x17064x50, .f32⟩
  | 71 => ⟨S4x17064x50, .i1⟩
  | 72 => ⟨S4x17064x50, .f32⟩
  | 73 => ⟨S4x17064x50, .i1⟩
  | 74 => ⟨S4x17064x50, .i1⟩
  | 75 => ⟨S4x1x50, .f32⟩
  | 76 => ⟨S4x17064x50, .f32⟩
  | 77 => ⟨S_, .f32⟩
  | 78 => ⟨S_, .f32⟩
  | 79 => ⟨S4x17064x50, .f32⟩
  | 80 => ⟨S4x17064x50, .f32⟩
  | 81 => ⟨S_, .f32⟩
  | 82 => ⟨S_, .f32⟩
  | 83 => ⟨S4x17064x50, .f32⟩
  | 84 => ⟨S4x17064x50, .f32⟩
  | 85 => ⟨S_, .f32⟩
  | 86 => ⟨S4x17064, .f32⟩
  | 87 => ⟨S4x17064x1, .f32⟩
  | 88 => ⟨S4x17064x50, .f32⟩
  | 89 => ⟨S4x17064x50, .i1⟩
  | 90 => ⟨S50, .i32⟩
  | 91 => ⟨S1x1x50, .i32⟩
  | 92 => ⟨S_, .i32⟩
  | 93 => ⟨S_, .i32⟩
  | 94 => ⟨S4x17064x50, .i32⟩
  | 95 => ⟨S4x17064x50, .i32⟩
  | 96 => ⟨S4x17064x50, .i32⟩
  | 97 => ⟨S_, .i32⟩
  | 98 => ⟨S4x17064, .i32⟩
  | 99 => ⟨S_, .i32⟩
  | 100 => ⟨S4x17064, .i32⟩
  | 101 => ⟨S4x17064, .i1⟩
  | 102 => ⟨S_, .i32⟩
  | 103 => ⟨S4x17064, .i32⟩
  | 104 => ⟨S4x17064, .i32⟩
  | 105 => ⟨S4x17064, .i32⟩
  | 106 => ⟨S4x17064x1, .i32⟩
  | 107 => ⟨S1, .i32⟩
  | 108 => ⟨S_, .i32⟩
  | 109 => ⟨S4x17064x1, .i32⟩
  | 110 => ⟨S4x17064x1, .i1⟩
  | 111 => ⟨S1x1x1, .i32⟩
  | 112 => ⟨S4x17064x1, .i32⟩
  | 113 => ⟨S4x17064x1, .i1⟩
  | 114 => ⟨S4x17064x1, .i1⟩
  | 115 => ⟨S_, .i1⟩
  | 116 => ⟨S4x17064, .i1⟩
  | 117 => ⟨S4x17064, .i32⟩
  | 118 => ⟨S_, .i32⟩
  | 119 => ⟨S4x17064, .i32⟩
  | 120 => ⟨S4x17064, .i32⟩
  | 121 => ⟨S_, .f32⟩
  | 122 => ⟨S4x17064, .f32⟩
  | 123 => ⟨S4x17064, .i1⟩
  | 124 => ⟨S_, .i32⟩
  | 125 => ⟨S_, .i32⟩
  | 126 => ⟨S4x17064, .i32⟩
  | 127 => ⟨S4x17064, .i32⟩
  | _ => ⟨S17064x2, .f32⟩

abbrev hbmTy0_1 (i : Nat) : BufTy := match i % 128 with
  | 0 => ⟨S_, .i32⟩
  | 1 => ⟨S4x17064, .i32⟩
  | 2 => ⟨S4x17064, .i1⟩
  | 3 => ⟨S4x17064, .f32⟩
  | 4 => ⟨S4x17064x1, .i32⟩
  | 5 => ⟨S80, .i32⟩
  | 6 => ⟨S_, .i32⟩
  | 7 => ⟨S80, .i32⟩
  | 8 => ⟨S80, .i32⟩
  | 9 => ⟨S1x1x80, .i32⟩
  | 10 => ⟨S4x17064x80, .i32⟩
  | 11 => ⟨S4x17064x80, .i32⟩
  | 12 => ⟨S4x17064x80, .i1⟩
  | 13 => ⟨S4x17064x80, .f32⟩
  | 14 => ⟨S_, .f32⟩
  | 15 => ⟨S4x17064x80, .f32⟩
  | 16 => ⟨S4x17064x80, .f32⟩
  | 17 => ⟨S4x17064x80, .f32⟩
  | 18 => ⟨S4x17064x80, .f32⟩
  | 19 => ⟨S4x17064x80, .f32⟩
  | 20 => ⟨S4x17064x80, .f32⟩
  | 21 => ⟨S4x17064x80, .f32⟩
  | 22 => ⟨S4x17064x80, .f32⟩
  | 23 => ⟨S4x17064x80, .f32⟩
  | 24 => ⟨S_, .f32⟩
  | 25 => ⟨S_, .f32⟩
  | 26 => ⟨S_, .f32⟩
  | 27 => ⟨S_, .f32⟩
  | 28 => ⟨S4x17064x1, .i32⟩
  | 29 => ⟨S_, .i32⟩
  | 30 => ⟨S4x17064x1, .i32⟩
  | 31 => ⟨S4x17064x1, .i1⟩
  | 32 => ⟨S_, .i32⟩
  | 33 => ⟨S4x17064x1, .i32⟩
  | 34 => ⟨S4x17064x1, .i32⟩
  | 35 => ⟨S4x17064x1, .i32⟩
  | 36 => ⟨S4x17064x1x1, .i32⟩
  | 37 => ⟨S1, .i32⟩
  | 38 => ⟨S_, .i32⟩
  | 39 => ⟨S4x17064x1x1, .i32⟩
  | 40 => ⟨S4x17064x1x1, .i1⟩
  | 41 => ⟨S1x1x1x1, .i32⟩
  | 42 => ⟨S4x17064x1x1, .i32⟩
  | 43 => ⟨S4x17064x1x1, .i1⟩
  | 44 => ⟨S4x17064x1x1, .i1⟩
  | 45 => ⟨S_, .i1⟩
  | 46 => ⟨S4x17064x1, .i1⟩
  | 47 => ⟨S4x17064x1, .f32⟩
  | 48 => ⟨S_, .f32⟩
  | 49 => ⟨S4x17064x1, .f32⟩
  | 50 => ⟨S4x17064x1, .f32⟩
  | 51 => ⟨S4x17064, .f32⟩
  | 52 => ⟨S_, .f32⟩
  | 53 => ⟨S_, .f32⟩
  | 54 => ⟨S4x17064, .f32⟩
  | 55 => ⟨S4x17064, .f32⟩
  | 56 => ⟨S4x17064x1, .i32⟩
  | 57 => ⟨S_, .i32⟩
  | 58 => ⟨S4x17064x1, .i32⟩
  | 59 => ⟨S4x17064x1, .i1⟩
  | 60 => ⟨S_, .i32⟩
  | 61 => ⟨S4x17064x1, .i32⟩
  | 62 => ⟨S4x17064x1, .i32⟩
  | 63 => ⟨S4x17064x1, .i32⟩
  | 64 => ⟨S4x17064x1x1, .i32⟩
  | 65 => ⟨S1, .i32⟩
  | 66 => ⟨S_, .i32⟩
  | 67 => ⟨S4x17064x1x1, .i32⟩
  | 68 => ⟨S4x17064x1x1, .i1⟩
  | 69 => ⟨S1x1x1x1, .i32⟩
  | 70 => ⟨S4x17064x1x1, .i32⟩
  | 71 => ⟨S4x17064x1x1, .i1⟩
  | 72 => ⟨S4x17064x1x1, .i1⟩
  | 73 => ⟨S_, .i1⟩
  | 74 => ⟨S4x17064x1, .i1⟩
  | 75 => ⟨S4x17064x1, .f32⟩
  | 76 => ⟨S_, .f32⟩
  | 77 => ⟨S4x17064x1, .f32⟩
  | 78 => ⟨S4x17064x1, .f32⟩
  | 79 => ⟨S4x17064, .f32⟩
  | 80 => ⟨S_, .f32⟩
  | 81 => ⟨S_, .f32⟩
  | 82 => ⟨S4x17064, .f32⟩
  | 83 => ⟨S4x17064, .f32⟩
  | 84 => ⟨S4x17064x1, .i32⟩
  | 85 => ⟨S_, .i32⟩
  | 86 => ⟨S4x17064x1, .i32⟩
  | 87 => ⟨S4x17064x1, .i1⟩
  | 88 => ⟨S_, .i32⟩
  | 89 => ⟨S4x17064x1, .i32⟩
  | 90 => ⟨S4x17064x1, .i32⟩
  | 91 => ⟨S4x17064x1, .i32⟩
  | 92 => ⟨S4x17064x1x1, .i32⟩
  | 93 => ⟨S1, .i32⟩
  | 94 => ⟨S_, .i32⟩
  | 95 => ⟨S4x17064x1x1, .i32⟩
  | 96 => ⟨S4x17064x1x1, .i1⟩
  | 97 => ⟨S1x1x1x1, .i32⟩
  | 98 => ⟨S4x17064x1x1, .i32⟩
  | 99 => ⟨S4x17064x1x1, .i1⟩
  | 100 => ⟨S4x17064x1x1, .i1⟩
  | 101 => ⟨S_, .i1⟩
  | 102 => ⟨S4x17064x1, .i1⟩
  | 103 => ⟨S4x17064x1, .f32⟩
  | 104 => ⟨S_, .f32⟩
  | 105 => ⟨S4x17064x1, .f32⟩
  | 106 => ⟨S4x17064x1, .f32⟩
  | 107 => ⟨S4x17064, .f32⟩
  | 108 => ⟨S_, .f32⟩
  | 109 => ⟨S_, .f32⟩
  | 110 => ⟨S4x17064, .f32⟩
  | 111 => ⟨S4x17064, .f32⟩
  | 112 => ⟨S4x17064x1, .i32⟩
  | 113 => ⟨S_, .i32⟩
  | 114 => ⟨S4x17064x1, .i32⟩
  | 115 => ⟨S4x17064x1, .i1⟩
  | 116 => ⟨S_, .i32⟩
  | 117 => ⟨S4x17064x1, .i32⟩
  | 118 => ⟨S4x17064x1, .i32⟩
  | 119 => ⟨S4x17064x1, .i32⟩
  | 120 => ⟨S4x17064x1x1, .i32⟩
  | 121 => ⟨S1, .i32⟩
  | 122 => ⟨S_, .i32⟩
  | 123 => ⟨S4x17064x1x1, .i32⟩
  | 124 => ⟨S4x17064x1x1, .i1⟩
  | 125 => ⟨S1x1x1x1, .i32⟩
  | 126 => ⟨S4x17064x1x1, .i32⟩
  | 127 => ⟨S4x17064x1x1, .i1⟩
  | _ => ⟨S17064x2, .f32⟩

abbrev hbmTy0_2 (i : Nat) : BufTy := match i % 128 with
  | 0 => ⟨S4x17064x1x1, .i1⟩
  | 1 => ⟨S_, .i1⟩
  | 2 => ⟨S4x17064x1, .i1⟩
  | 3 => ⟨S4x17064x1, .f32⟩
  | 4 => ⟨S_, .f32⟩
  | 5 => ⟨S4x17064x1, .f32⟩
  | 6 => ⟨S4x17064x1, .f32⟩
  | 7 => ⟨S4x17064, .f32⟩
  | 8 => ⟨S_, .f32⟩
  | 9 => ⟨S_, .f32⟩
  | 10 => ⟨S4x17064, .f32⟩
  | 11 => ⟨S4x17064, .f32⟩
  | 12 => ⟨S4x17064, .f32⟩
  | 13 => ⟨S4x17064, .f32⟩
  | 14 => ⟨S_, .f32⟩
  | 15 => ⟨S4x17064, .f32⟩
  | 16 => ⟨S4x17064, .f32⟩
  | 17 => ⟨S4x17064, .f32⟩
  | 18 => ⟨S4x17064, .f32⟩
  | 19 => ⟨S4x17064, .f32⟩
  | 20 => ⟨S_, .f32⟩
  | 21 => ⟨S4x17064, .f32⟩
  | 22 => ⟨S4x17064, .f32⟩
  | 23 => ⟨S4x17064, .f32⟩
  | 24 => ⟨S4x17064, .f32⟩
  | 25 => ⟨S4x17064x1, .f32⟩
  | 26 => ⟨S4x17064, .f32⟩
  | 27 => ⟨S_, .f32⟩
  | 28 => ⟨S4x17064, .f32⟩
  | 29 => ⟨S4x17064, .f32⟩
  | 30 => ⟨S_, .f32⟩
  | 31 => ⟨S_, .f32⟩
  | 32 => ⟨S4x17064, .f32⟩
  | 33 => ⟨S4x17064, .f32⟩
  | 34 => ⟨S4x17064x1, .f32⟩
  | 35 => ⟨S4x17064, .f32⟩
  | 36 => ⟨S_, .f32⟩
  | 37 => ⟨S4x17064, .f32⟩
  | 38 => ⟨S4x17064, .f32⟩
  | 39 => ⟨S_, .f32⟩
  | 40 => ⟨S_, .f32⟩
  | 41 => ⟨S4x17064, .f32⟩
  | 42 => ⟨S4x17064, .f32⟩
  | 43 => ⟨S4x17064x1, .f32⟩
  | 44 => ⟨S4x17064, .f32⟩
  | 45 => ⟨S_, .f32⟩
  | 46 => ⟨S4x17064, .f32⟩
  | 47 => ⟨S4x17064, .f32⟩
  | 48 => ⟨S_, .f32⟩
  | 49 => ⟨S_, .f32⟩
  | 50 => ⟨S4x17064, .f32⟩
  | 51 => ⟨S4x17064, .f32⟩
  | 52 => ⟨S4x17064x1, .f32⟩
  | 53 => ⟨S4x17064, .f32⟩
  | 54 => ⟨S_, .f32⟩
  | 55 => ⟨S4x17064, .f32⟩
  | 56 => ⟨S4x17064, .f32⟩
  | 57 => ⟨S_, .f32⟩
  | 58 => ⟨S_, .f32⟩
  | 59 => ⟨S4x17064, .f32⟩
  | 60 => ⟨S4x17064, .f32⟩
  | 61 => ⟨S4x17064, .f32⟩
  | 62 => ⟨S4x17064, .f32⟩
  | 63 => ⟨S4x17064, .f32⟩
  | 64 => ⟨S4x17064, .f32⟩
  | 65 => ⟨S4x17064, .f32⟩
  | 66 => ⟨S4x17064, .f32⟩
  | 67 => ⟨S4x17064, .f32⟩
  | 68 => ⟨S4x17064, .f32⟩
  | 69 => ⟨S4x17064, .f32⟩
  | 70 => ⟨S4x17064, .f32⟩
  | 71 => ⟨S4x17064, .f32⟩
  | 72 => ⟨S4x17064, .f32⟩
  | 73 => ⟨S4x17064, .f32⟩
  | 74 => ⟨S4x17064, .f32⟩
  | 75 => ⟨S4x17064, .f32⟩
  | 76 => ⟨S_, .f32⟩
  | 77 => ⟨S4x17064, .f32⟩
  | 78 => ⟨S4x17064, .f32⟩
  | 79 => ⟨S_, .f32⟩
  | 80 => ⟨S4x17064, .f32⟩
  | 81 => ⟨S4x17064, .f32⟩
  | 82 => ⟨S4x17064, .f32⟩
  | 83 => ⟨S_, .f32⟩
  | 84 => ⟨S4x17064, .f32⟩
  | 85 => ⟨S4x17064, .f32⟩
  | 86 => ⟨S4x17064, .f32⟩
  | 87 => ⟨S4x17064, .f32⟩
  | 88 => ⟨S4x17064, .f32⟩
  | 89 => ⟨S4x17064, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S4x17064, .f32⟩
  | 99 => ⟨S4x17064, .f32⟩
  | 100 => ⟨S4x17064, .f32⟩
  | 101 => ⟨S4x17064, .f32⟩
  | 102 => ⟨S4x17064, .f32⟩
  | 103 => ⟨S4x17064, .f32⟩
  | 104 => ⟨S4x17064, .f32⟩
  | 105 => ⟨S4x17064, .f32⟩
  | 106 => ⟨S4x17064, .f32⟩
  | 107 => ⟨S4x17064, .f32⟩
  | 108 => ⟨S_, .f32⟩
  | 109 => ⟨S_, .f32⟩
  | _ => ⟨S17064x2, .f32⟩

abbrev hbmTy (i : Nat) : BufTy := match i / 128 with
  | 0 => hbmTy0_0 i
  | 1 => hbmTy0_1 i
  | 2 => hbmTy0_2 i
  | _ => ⟨S17064x2, .f32⟩

abbrev bufTy : (tb : Table) → Fin (tcTables nBuf tb) → BufTy
  | .hbm, ⟨i, _⟩ => hbmTy i
  | _, _ => ⟨S17064x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_cst_5 : Ref sig .tc := ⟨.hbm, 21, rfl⟩
abbrev main_v8 : Ref sig .tc := ⟨.hbm, 22, rfl⟩
abbrev main_cst_6 : Ref sig .tc := ⟨.hbm, 23, rfl⟩
abbrev main_v9 : Ref sig .tc := ⟨.hbm, 24, rfl⟩
abbrev main_cst_7 : Ref sig .tc := ⟨.hbm, 25, rfl⟩
abbrev main_v10 : Ref sig .tc := ⟨.hbm, 26, rfl⟩
abbrev main_cst_8 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_call0_v0 : Ref sig .tc := ⟨.hbm, 78, rfl⟩
abbrev main_call0_v1 : Ref sig .tc := ⟨.hbm, 79, rfl⟩
abbrev main_v59 : Ref sig .tc := ⟨.hbm, 80, rfl⟩
abbrev main_cst_11 : Ref sig .tc := ⟨.hbm, 81, rfl⟩
abbrev main_call1_v0 : Ref sig .tc := ⟨.hbm, 82, rfl⟩
abbrev main_call1_v1 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_c_4 : Ref sig .tc := ⟨.hbm, 118, rfl⟩
abbrev main_call3_v14 : Ref sig .tc := ⟨.hbm, 119, rfl⟩
abbrev main_v69 : Ref sig .tc := ⟨.hbm, 120, rfl⟩
abbrev main_cst_14 : Ref sig .tc := ⟨.hbm, 121, rfl⟩
abbrev main_v70 : Ref sig .tc := ⟨.hbm, 122, rfl⟩
abbrev main_v71 : Ref sig .tc := ⟨.hbm, 123, rfl⟩
abbrev main_c_15 : Ref sig .tc := ⟨.hbm, 124, rfl⟩
abbrev main_call4_v0 : Ref sig .tc := ⟨.hbm, 125, rfl⟩
abbrev main_call4_v1 : Ref sig .tc := ⟨.hbm, 126, rfl⟩
abbrev main_v72 : Ref sig .tc := ⟨.hbm, 127, rfl⟩
abbrev main_c_16 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_c_17 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_18 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_19 : Ref sig .tc := ⟨.hbm, 152, rfl⟩
abbrev main_v94 : Ref sig .tc := ⟨.hbm, 153, rfl⟩
abbrev main_cst_20 : Ref sig .tc := ⟨.hbm, 154, rfl⟩
abbrev main_v95 : Ref sig .tc := ⟨.hbm, 155, rfl⟩
abbrev main_v96 : Ref sig .tc := ⟨.hbm, 156, rfl⟩
abbrev main_call5_c : Ref sig .tc := ⟨.hbm, 157, rfl⟩
abbrev main_call5_v0 : Ref sig .tc := ⟨.hbm, 158, rfl⟩
abbrev main_call5_v1 : Ref sig .tc := ⟨.hbm, 159, rfl⟩
abbrev main_call5_c_0 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_c_1 : Ref sig .tc := ⟨.hbm, 165, rfl⟩
abbrev main_call5_c_2 : Ref sig .tc := ⟨.hbm, 166, rfl⟩
abbrev main_call5_v6 : Ref sig .tc := ⟨.hbm, 167, rfl⟩
abbrev main_call5_v7 : Ref sig .tc := ⟨.hbm, 168, rfl⟩
abbrev main_call5_v8 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_c_3 : Ref sig .tc := ⟨.hbm, 173, rfl⟩
abbrev main_call5_v12 : Ref sig .tc := ⟨.hbm, 174, rfl⟩
abbrev main_call5_v13 : Ref sig .tc := ⟨.hbm, 175, rfl⟩
abbrev main_call5_cst : Ref sig .tc := ⟨.hbm, 176, rfl⟩
abbrev main_call5_v14 : Ref sig .tc := ⟨.hbm, 177, rfl⟩
abbrev main_v97 : Ref sig .tc := ⟨.hbm, 178, rfl⟩
abbrev main_v98 : Ref sig .tc := ⟨.hbm, 179, rfl⟩
abbrev main_cst_21 : Ref sig .tc := ⟨.hbm, 180, rfl⟩
abbrev main_call6_v0 : Ref sig .tc := ⟨.hbm, 181, rfl⟩
abbrev main_call6_v1 : Ref sig .tc := ⟨.hbm, 182, rfl⟩
abbrev main_v99 : Ref sig .tc := ⟨.hbm, 183, rfl⟩
abbrev main_v100 : Ref sig .tc := ⟨.hbm, 184, rfl⟩
abbrev main_call7_c : Ref sig .tc := ⟨.hbm, 185, rfl⟩
abbrev main_call7_v0 : Ref sig .tc := ⟨.hbm, 186, rfl⟩
abbrev main_call7_v1 : Ref sig .tc := ⟨.hbm, 187, rfl⟩
abbrev main_call7_c_0 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_call7_v5 : Ref sig .tc := ⟨.hbm, 192, rfl⟩
abbrev main_call7_c_1 : Ref sig .tc := ⟨.hbm, 193, rfl⟩
abbrev main_call7_c_2 : Ref sig .tc := ⟨.hbm, 194, rfl⟩
abbrev main_call7_v6 : Ref sig .tc := ⟨.hbm, 195, rfl⟩
abbrev main_call7_v7 : Ref sig .tc := ⟨.hbm, 196, rfl⟩
abbrev main_call7_v8 : Ref sig .tc := ⟨.hbm, 197, rfl⟩
abbrev main_call7_v9 : Ref sig .tc := ⟨.hbm, 198, rfl⟩
abbrev main_call7_v10 : Ref sig .tc := ⟨.hbm, 199, rfl⟩
abbrev main_call7_v11 : Ref sig .tc := ⟨.hbm, 200, rfl⟩
abbrev main_call7_c_3 : Ref sig .tc := ⟨.hbm, 201, rfl⟩
abbrev main_call7_v12 : Ref sig .tc := ⟨.hbm, 202, rfl⟩
abbrev main_call7_v13 : Ref sig .tc := ⟨.hbm, 203, rfl⟩
abbrev main_call7_cst : Ref sig .tc := ⟨.hbm, 204, rfl⟩
abbrev main_call7_v14 : Ref sig .tc := ⟨.hbm, 205, rfl⟩
abbrev main_v101 : Ref sig .tc := ⟨.hbm, 206, rfl⟩
abbrev main_v102 : Ref sig .tc := ⟨.hbm, 207, rfl⟩
abbrev main_cst_22 : Ref sig .tc := ⟨.hbm, 208, rfl⟩
abbrev main_call8_v0 : Ref sig .tc := ⟨.hbm, 209, rfl⟩
abbrev main_call8_v1 : Ref sig .tc := ⟨.hbm, 210, rfl⟩
abbrev main_v103 : Ref sig .tc := ⟨.hbm, 211, rfl⟩
abbrev main_v104 : Ref sig .tc := ⟨.hbm, 212, rfl⟩
abbrev main_call9_c : Ref sig .tc := ⟨.hbm, 213, rfl⟩
abbrev main_call9_v0 : Ref sig .tc := ⟨.hbm, 214, rfl⟩
abbrev main_call9_v1 : Ref sig .tc := ⟨.hbm, 215, rfl⟩
abbrev main_call9_c_0 : Ref sig .tc := ⟨.hbm, 216, rfl⟩
abbrev main_call9_v2 : Ref sig .tc := ⟨.hbm, 217, rfl⟩
abbrev main_call9_v3 : Ref sig .tc := ⟨.hbm, 218, rfl⟩
abbrev main_call9_v4 : Ref sig .tc := ⟨.hbm, 219, rfl⟩
abbrev main_call9_v5 : Ref sig .tc := ⟨.hbm, 220, rfl⟩
abbrev main_call9_c_1 : Ref sig .tc := ⟨.hbm, 221, rfl⟩
abbrev main_call9_c_2 : Ref sig .tc := ⟨.hbm, 222, rfl⟩
abbrev main_call9_v6 : Ref sig .tc := ⟨.hbm, 223, rfl⟩
abbrev main_call9_v7 : Ref sig .tc := ⟨.hbm, 224, rfl⟩
abbrev main_call9_v8 : Ref sig .tc := ⟨.hbm, 225, rfl⟩
abbrev main_call9_v9 : Ref sig .tc := ⟨.hbm, 226, rfl⟩
abbrev main_call9_v10 : Ref sig .tc := ⟨.hbm, 227, rfl⟩
abbrev main_call9_v11 : Ref sig .tc := ⟨.hbm, 228, rfl⟩
abbrev main_call9_c_3 : Ref sig .tc := ⟨.hbm, 229, rfl⟩
abbrev main_call9_v12 : Ref sig .tc := ⟨.hbm, 230, rfl⟩
abbrev main_call9_v13 : Ref sig .tc := ⟨.hbm, 231, rfl⟩
abbrev main_call9_cst : Ref sig .tc := ⟨.hbm, 232, rfl⟩
abbrev main_call9_v14 : Ref sig .tc := ⟨.hbm, 233, rfl⟩
abbrev main_v105 : Ref sig .tc := ⟨.hbm, 234, rfl⟩
abbrev main_v106 : Ref sig .tc := ⟨.hbm, 235, rfl⟩
abbrev main_cst_23 : Ref sig .tc := ⟨.hbm, 236, rfl⟩
abbrev main_call10_v0 : Ref sig .tc := ⟨.hbm, 237, rfl⟩
abbrev main_call10_v1 : Ref sig .tc := ⟨.hbm, 238, rfl⟩
abbrev main_v107 : Ref sig .tc := ⟨.hbm, 239, rfl⟩
abbrev main_v108 : Ref sig .tc := ⟨.hbm, 240, rfl⟩
abbrev main_call11_c : Ref sig .tc := ⟨.hbm, 241, rfl⟩
abbrev main_call11_v0 : Ref sig .tc := ⟨.hbm, 242, rfl⟩
abbrev main_call11_v1 : Ref sig .tc := ⟨.hbm, 243, rfl⟩
abbrev main_call11_c_0 : Ref sig .tc := ⟨.hbm, 244, rfl⟩
abbrev main_call11_v2 : Ref sig .tc := ⟨.hbm, 245, rfl⟩
abbrev main_call11_v3 : Ref sig .tc := ⟨.hbm, 246, rfl⟩
abbrev main_call11_v4 : Ref sig .tc := ⟨.hbm, 247, rfl⟩
abbrev main_call11_v5 : Ref sig .tc := ⟨.hbm, 248, rfl⟩
abbrev main_call11_c_1 : Ref sig .tc := ⟨.hbm, 249, rfl⟩
abbrev main_call11_c_2 : Ref sig .tc := ⟨.hbm, 250, rfl⟩
abbrev main_call11_v6 : Ref sig .tc := ⟨.hbm, 251, rfl⟩
abbrev main_call11_v7 : Ref sig .tc := ⟨.hbm, 252, rfl⟩
abbrev main_call11_v8 : Ref sig .tc := ⟨.hbm, 253, rfl⟩
abbrev main_call11_v9 : Ref sig .tc := ⟨.hbm, 254, rfl⟩
abbrev main_call11_v10 : Ref sig .tc := ⟨.hbm, 255, rfl⟩
abbrev main_call11_v11 : Ref sig .tc := ⟨.hbm, 256, rfl⟩
abbrev main_call11_c_3 : Ref sig .tc := ⟨.hbm, 257, rfl⟩
abbrev main_call11_v12 : Ref sig .tc := ⟨.hbm, 258, rfl⟩
abbrev main_call11_v13 : Ref sig .tc := ⟨.hbm, 259, rfl⟩
abbrev main_call11_cst : Ref sig .tc := ⟨.hbm, 260, rfl⟩
abbrev main_call11_v14 : Ref sig .tc := ⟨.hbm, 261, rfl⟩
abbrev main_v109 : Ref sig .tc := ⟨.hbm, 262, rfl⟩
abbrev main_v110 : Ref sig .tc := ⟨.hbm, 263, rfl⟩
abbrev main_cst_24 : Ref sig .tc := ⟨.hbm, 264, rfl⟩
abbrev main_call12_v0 : Ref sig .tc := ⟨.hbm, 265, rfl⟩
abbrev main_call12_v1 : Ref sig .tc := ⟨.hbm, 266, rfl⟩
abbrev main_v111 : Ref sig .tc := ⟨.hbm, 267, rfl⟩
abbrev main_v112 : Ref sig .tc := ⟨.hbm, 268, rfl⟩
abbrev main_v113 : Ref sig .tc := ⟨.hbm, 269, rfl⟩
abbrev main_cst_25 : Ref sig .tc := ⟨.hbm, 270, rfl⟩
abbrev main_v114 : Ref sig .tc := ⟨.hbm, 271, rfl⟩
abbrev main_v115 : Ref sig .tc := ⟨.hbm, 272, rfl⟩
abbrev main_v116 : Ref sig .tc := ⟨.hbm, 273, rfl⟩
abbrev main_v117 : Ref sig .tc := ⟨.hbm, 274, rfl⟩
abbrev main_v118 : Ref sig .tc := ⟨.hbm, 275, rfl⟩
abbrev main_cst_26 : Ref sig .tc := ⟨.hbm, 276, rfl⟩
abbrev main_v119 : Ref sig .tc := ⟨.hbm, 277, rfl⟩
abbrev main_v120 : Ref sig .tc := ⟨.hbm, 278, rfl⟩
abbrev main_v121 : Ref sig .tc := ⟨.hbm, 279, rfl⟩
abbrev main_v122 : Ref sig .tc := ⟨.hbm, 280, rfl⟩
abbrev main_v123 : Ref sig .tc := ⟨.hbm, 281, rfl⟩
abbrev main_v124 : Ref sig .tc := ⟨.hbm, 282, rfl⟩
abbrev main_cst_27 : Ref sig .tc := ⟨.hbm, 283, rfl⟩
abbrev main_v125 : Ref sig .tc := ⟨.hbm, 284, rfl⟩
abbrev main_v126 : Ref sig .tc := ⟨.hbm, 285, rfl⟩
abbrev main_cst_28 : Ref sig .tc := ⟨.hbm, 286, rfl⟩
abbrev main_call13_v0 : Ref sig .tc := ⟨.hbm, 287, rfl⟩
abbrev main_call13_v1 : Ref sig .tc := ⟨.hbm, 288, rfl⟩
abbrev main_v127 : Ref sig .tc := ⟨.hbm, 289, rfl⟩
abbrev main_v128 : Ref sig .tc := ⟨.hbm, 290, rfl⟩
abbrev main_v129 : Ref sig .tc := ⟨.hbm, 291, rfl⟩
abbrev main_cst_29 : Ref sig .tc := ⟨.hbm, 292, rfl⟩
abbrev main_v130 : Ref sig .tc := ⟨.hbm, 293, rfl⟩
abbrev main_v131 : Ref sig .tc := ⟨.hbm, 294, rfl⟩
abbrev main_cst_30 : Ref sig .tc := ⟨.hbm, 295, rfl⟩
abbrev main_call14_v0 : Ref sig .tc := ⟨.hbm, 296, rfl⟩
abbrev main_call14_v1 : Ref sig .tc := ⟨.hbm, 297, rfl⟩
abbrev main_v132 : Ref sig .tc := ⟨.hbm, 298, rfl⟩
abbrev main_v133 : Ref sig .tc := ⟨.hbm, 299, rfl⟩
abbrev main_v134 : Ref sig .tc := ⟨.hbm, 300, rfl⟩
abbrev main_cst_31 : Ref sig .tc := ⟨.hbm, 301, rfl⟩
abbrev main_v135 : Ref sig .tc := ⟨.hbm, 302, rfl⟩
abbrev main_v136 : Ref sig .tc := ⟨.hbm, 303, rfl⟩
abbrev main_cst_32 : Ref sig .tc := ⟨.hbm, 304, rfl⟩
abbrev main_call15_v0 : Ref sig .tc := ⟨.hbm, 305, rfl⟩
abbrev main_call15_v1 : Ref sig .tc := ⟨.hbm, 306, rfl⟩
abbrev main_v137 : Ref sig .tc := ⟨.hbm, 307, rfl⟩
abbrev main_v138 : Ref sig .tc := ⟨.hbm, 308, rfl⟩
abbrev main_v139 : Ref sig .tc := ⟨.hbm, 309, rfl⟩
abbrev main_cst_33 : Ref sig .tc := ⟨.hbm, 310, rfl⟩
abbrev main_v140 : Ref sig .tc := ⟨.hbm, 311, rfl⟩
abbrev main_v141 : Ref sig .tc := ⟨.hbm, 312, rfl⟩
abbrev main_cst_34 : Ref sig .tc := ⟨.hbm, 313, rfl⟩
abbrev main_call16_v0 : Ref sig .tc := ⟨.hbm, 314, rfl⟩
abbrev main_call16_v1 : Ref sig .tc := ⟨.hbm, 315, rfl⟩
abbrev main_v142 : Ref sig .tc := ⟨.hbm, 316, rfl⟩
abbrev main_v143 : Ref sig .tc := ⟨.hbm, 317, rfl⟩
abbrev main_v144 : Ref sig .tc := ⟨.hbm, 318, rfl⟩
abbrev main_v145 : Ref sig .tc := ⟨.hbm, 319, rfl⟩
abbrev main_v146 : Ref sig .tc := ⟨.hbm, 320, rfl⟩
abbrev main_v147 : Ref sig .tc := ⟨.hbm, 321, rfl⟩
abbrev main_v148 : Ref sig .tc := ⟨.hbm, 322, rfl⟩
abbrev main_v149 : Ref sig .tc := ⟨.hbm, 323, rfl⟩
abbrev main_v150 : Ref sig .tc := ⟨.hbm, 324, rfl⟩
abbrev main_v151 : Ref sig .tc := ⟨.hbm, 325, rfl⟩
abbrev main_v152 : Ref sig .tc := ⟨.hbm, 326, rfl⟩
abbrev main_v153 : Ref sig .tc := ⟨.hbm, 327, rfl⟩
abbrev main_v154 : Ref sig .tc := ⟨.hbm, 328, rfl⟩
abbrev main_v155 : Ref sig .tc := ⟨.hbm, 329, rfl⟩
abbrev main_v156 : Ref sig .tc := ⟨.hbm, 330, rfl⟩
abbrev main_v157 : Ref sig .tc := ⟨.hbm, 331, rfl⟩
abbrev main_cst_35 : Ref sig .tc := ⟨.hbm, 332, rfl⟩
abbrev main_v158 : Ref sig .tc := ⟨.hbm, 333, rfl⟩
abbrev main_v159 : Ref sig .tc := ⟨.hbm, 334, rfl⟩
abbrev main_cst_36 : Ref sig .tc := ⟨.hbm, 335, rfl⟩
abbrev main_v160 : Ref sig .tc := ⟨.hbm, 336, rfl⟩
abbrev main_v161 : Ref sig .tc := ⟨.hbm, 337, rfl⟩
abbrev main_v162 : Ref sig .tc := ⟨.hbm, 338, rfl⟩
abbrev main_cst_37 : Ref sig .tc := ⟨.hbm, 339, rfl⟩
abbrev main_v163 : Ref sig .tc := ⟨.hbm, 340, rfl⟩
abbrev main_v164 : Ref sig .tc := ⟨.hbm, 341, rfl⟩
abbrev main_v165 : Ref sig .tc := ⟨.hbm, 342, rfl⟩
abbrev main_v166 : Ref sig .tc := ⟨.hbm, 343, rfl⟩
abbrev main_v167 : Ref sig .tc := ⟨.hbm, 344, rfl⟩
abbrev main_v168 : Ref sig .tc := ⟨.hbm, 345, rfl⟩
abbrev main_cst_38 : Ref sig .tc := ⟨.hbm, 346, rfl⟩
abbrev main_v169 : Ref sig .tc := ⟨.hbm, 347, rfl⟩
abbrev main_cst_39 : Ref sig .tc := ⟨.hbm, 348, rfl⟩
abbrev main_v170 : Ref sig .tc := ⟨.hbm, 349, rfl⟩
abbrev main_cst_40 : Ref sig .tc := ⟨.hbm, 350, rfl⟩
abbrev main_v171 : Ref sig .tc := ⟨.hbm, 351, rfl⟩
abbrev main_v172 : Ref sig .tc := ⟨.hbm, 352, rfl⟩
abbrev main_cst_41 : Ref sig .tc := ⟨.hbm, 353, rfl⟩
abbrev main_v173 : Ref sig .tc := ⟨.hbm, 354, rfl⟩
abbrev main_v174 : Ref sig .tc := ⟨.hbm, 355, rfl⟩
abbrev main_v175 : Ref sig .tc := ⟨.hbm, 356, rfl⟩
abbrev main_v176 : Ref sig .tc := ⟨.hbm, 357, rfl⟩
abbrev main_v177 : Ref sig .tc := ⟨.hbm, 358, rfl⟩
abbrev main_v178 : Ref sig .tc := ⟨.hbm, 359, rfl⟩
abbrev main_v179 : Ref sig .tc := ⟨.hbm, 360, rfl⟩
abbrev main_v180 : Ref sig .tc := ⟨.hbm, 361, rfl⟩
abbrev main_v181 : Ref sig .tc := ⟨.hbm, 362, rfl⟩
abbrev main_v182 : Ref sig .tc := ⟨.hbm, 363, rfl⟩
abbrev main_cst_42 : Ref sig .tc := ⟨.hbm, 364, rfl⟩
abbrev main_v183 : Ref sig .tc := ⟨.hbm, 365, rfl⟩

abbrev nD : Nat := 1
abbrev τ : Topo := Topo.v7x

variable {F : FTy → Type} [FloatOps F]
-- ==== Proof.KernelIdealBody.lean ====
module

public import proofs.«01_k».proof.Proof.Gen.KernelIdeal.Frame
public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of a memref's buffer on a core. -/
abbrev Bf (c : Dev nD) {sp : Space} {S : Shape} {e : EltTy} (M : Memref sig .tc sp S e) : Type :=
  Buf (Elt F) (M.view.loc (c : Thread nD τ))

/-- A memref's buffer on a core, held whole at `f`. -/
abbrev pt (c : Dev nD) {sp : Space} {S : Shape} {e : EltTy} (M : Memref sig .tc sp S e) (f : Bf (F := F) c M) : sProp 𝕄 :=
  M.view.loc (c : Thread nD τ) ↦{fullShare} f

/-- The bit the body tests to see whether this is the first grid point. -/
abbrev cond1 (i : grid0.Coords) : BitVec 1 :=
  Scalar.cmpi .ne (Scalar.extui (Scalar.cmpi .eq (BitVec.ofNat 32 (i 0).val) 0#32) : BitVec 32) 0#32

/-- What the body leaves in the result window and in the accumulator at the first grid point (found by running it), with the proof. -/
def runFirst (i : grid0.Coords) (hc1 : cond1 i = 1#1) (hc2 : ¬ k0_cond2 i = 1#1) (c : Dev nD)
    (M0 : Memref sig .tc .vmem S2x2048 .f32) (h0 : M0.IsWhole) (M1 : Memref sig .tc .vmem S4x2048x80 .f32) (h1 : M1.IsWhole)
    (M2 : Memref sig .tc .vmem S4x4x2048 .f32) (h2 : M2.IsWhole) (M3 : Memref sig .tc .vmem S4x2048 .f32) (h3 : M3.IsWhole)
    (M4 : Memref sig .tc .vmem S4x50x4 .f32) (h4 : M4.IsWhole) (M5 : Memref sig .tc .vmem S4x50x1 .i32) (h5 : M5.IsWhole)
    (M6 : Memref sig .tc .vmem S4x50x1 .f32) (h6 : M6.IsWhole) (M7 : Memref sig .tc .vmem S1x128 .f32) (h7 : M7.IsWhole)
    (M8 : Memref sig .tc .smem S4 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) :
    { W : Bf (F := F) c M7 × Bf (F := F) c M8 //
      ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ pt c M8 f8
          ∗ (iprop(pt c M0 f0 ∗ pt c M1 f1 ∗ pt c M2 f2 ∗ pt c M3 f3 ∗ pt c M4 f4 ∗ pt c M5 f5 ∗ pt c M6 f6
                ∗ pt c M7 W.1 ∗ pt c M8 W.2) -∗ Q ⟨⟩))
        ⊢ wp frame (wpE (defs₀ (F := F)) Variants.none c none) E
            (cc0__fcos_kernel i M0 h0 M1 h1 M2 h2 M3 h3 M4 h4 M5 h5 M6 h6 M7 h7 M8 h8) Q } := by
  refine ⟨⟨?_, ?_⟩, fun E Q => ?run⟩
  case run =>
    iintro ⟨H0, H1, H2, H3, H4, H5, H6, H7, H8, Hk⟩
    sl_exec_parts! (disch := first | exact hc1 | exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The same at a grid point that is neither first nor last. -/
def runMid (i : grid0.Coords) (hc1 : ¬ cond1 i = 1#1) (hc2 : ¬ k0_cond2 i = 1#1) (c : Dev nD)
    (M0 : Memref sig .tc .vmem S2x2048 .f32) (h0 : M0.IsWhole) (M1 : Memref sig .tc .vmem S4x2048x80 .f32) (h1 : M1.IsWhole)
    (M2 : Memref sig .tc .vmem S4x4x2048 .f32) (h2 : M2.IsWhole) (M3 : Memref sig .tc .vmem S4x2048 .f32) (h3 : M3.IsWhole)
    (M4 : Memref sig .tc .vmem S4x50x4 .f32) (h4 : M4.IsWhole) (M5 : Memref sig .tc .vmem S4x50x1 .i32) (h5 : M5.IsWhole)
    (M6 : Memref sig .tc .vmem S4x50x1 .f32) (h6 : M6.IsWhole) (M7 : Memref sig .tc .vmem S1x128 .f32) (h7 : M7.IsWhole)
    (M8 : Memref sig .tc .smem S4 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) :
    { W : Bf (F := F) c M7 × Bf (F := F) c M8 //
      ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ pt c M8 f8
          ∗ (iprop(pt c M0 f0 ∗ pt c M1 f1 ∗ pt c M2 f2 ∗ pt c M3 f3 ∗ pt c M4 f4 ∗ pt c M5 f5 ∗ pt c M6 f6
                ∗ pt c M7 W.1 ∗ pt c M8 W.2) -∗ Q ⟨⟩))
        ⊢ wp frame (wpE (defs₀ (F := F)) Variants.none c none) E
            (cc0__fcos_kernel i M0 h0 M1 h1 M2 h2 M3 h3 M4 h4 M5 h5 M6 h6 M7 h7 M8 h8) Q } := by
  refine ⟨⟨?_, ?_⟩, fun E Q => ?run⟩
  case run =>
    iintro ⟨H0, H1, H2, H3, H4, H5, H6, H7, H8, Hk⟩
    sl_exec_parts! (disch := first | exact hc1 | exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The same at the last grid point. -/
def runLast (i : grid0.Coords) (hc1 : ¬ cond1 i = 1#1) (hc2 : k0_cond2 i = 1#1) (c : Dev nD)
    (M0 : Memref sig .tc .vmem S2x2048 .f32) (h0 : M0.IsWhole) (M1 : Memref sig .tc .vmem S4x2048x80 .f32) (h1 : M1.IsWhole)
    (M2 : Memref sig .tc .vmem S4x4x2048 .f32) (h2 : M2.IsWhole) (M3 : Memref sig .tc .vmem S4x2048 .f32) (h3 : M3.IsWhole)
    (M4 : Memref sig .tc .vmem S4x50x4 .f32) (h4 : M4.IsWhole) (M5 : Memref sig .tc .vmem S4x50x1 .i32) (h5 : M5.IsWhole)
    (M6 : Memref sig .tc .vmem S4x50x1 .f32) (h6 : M6.IsWhole) (M7 : Memref sig .tc .vmem S1x128 .f32) (h7 : M7.IsWhole)
    (M8 : Memref sig .tc .smem S4 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) :
    { W : Bf (F := F) c M7 × Bf (F := F) c M8 //
      ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ pt c M8 f8
          ∗ (iprop(pt c M0 f0 ∗ pt c M1 f1 ∗ pt c M2 f2 ∗ pt c M3 f3 ∗ pt c M4 f4 ∗ pt c M5 f5 ∗ pt c M6 f6
                ∗ pt c M7 W.1 ∗ pt c M8 W.2) -∗ Q ⟨⟩))
        ⊢ wp frame (wpE (defs₀ (F := F)) Variants.none c none) E
            (cc0__fcos_kernel i M0 h0 M1 h1 M2 h2 M3 h3 M4 h4 M5 h5 M6 h6 M7 h7 M8 h8) Q } := by
  refine ⟨⟨?_, ?_⟩, fun E Q => ?run⟩
  case run =>
    iintro ⟨H0, H1, H2, H3, H4, H5, H6, H7, H8, Hk⟩
    sl_exec_parts! (disch := first | exact hc1 | exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.Proof.KernelIdeal

end
-- ==== Proof.KernelIdealFrame.lean ====
module

public import proofs.«01_k».proof.Proof.KernelIdealBody
public import Idealize.ShloMosaic.Lib.Pipeline.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The accumulator, whole. -/
abbrev scM : Memref sig .tc .smem S4 .f32 := Memref.whole cc0_scratch0

/-- No grid point is both the first and the last. -/
theorem not_both (t : Fin grid0.N) : ¬ (cond1 (grid0.coords t) = 1#1 ∧ k0_cond2 (grid0.coords t) = 1#1) := by
  rcases fin_N0 t with rfl | rfl | rfl | rfl | rfl | rfl | rfl | rfl | rfl <;> decide

/-- The body at any point, from buffers at any contents, to buffers at some contents. -/
theorem kernelAny (i : grid0.Coords) (hnb : ¬ (cond1 i = 1#1 ∧ k0_cond2 i = 1#1)) (c : Dev nD)
    (M0 : Memref sig .tc .vmem S2x2048 .f32) (h0 : M0.IsWhole) (M1 : Memref sig .tc .vmem S4x2048x80 .f32) (h1 : M1.IsWhole)
    (M2 : Memref sig .tc .vmem S4x4x2048 .f32) (h2 : M2.IsWhole) (M3 : Memref sig .tc .vmem S4x2048 .f32) (h3 : M3.IsWhole)
    (M4 : Memref sig .tc .vmem S4x50x4 .f32) (h4 : M4.IsWhole) (M5 : Memref sig .tc .vmem S4x50x1 .i32) (h5 : M5.IsWhole)
    (M6 : Memref sig .tc .vmem S4x50x1 .f32) (h6 : M6.IsWhole) (M7 : Memref sig .tc .vmem S1x128 .f32) (h7 : M7.IsWhole)
    (M8 : Memref sig .tc .smem S4 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7
      ∗ pt c M8 f8
      ∗ (∀ (g7 : Bf (F := F) c M7) (g8 : Bf (F := F) c M8), iprop(pt c M0 f0 ∗ pt c M1 f1 ∗ pt c M2 f2 ∗ pt c M3 f3
            ∗ pt c M4 f4 ∗ pt c M5 f5 ∗ pt c M6 f6 ∗ pt c M7 g7 ∗ pt c M8 g8) -∗ Q ⟨⟩))
    ⊢ wp frame (wpE (defs₀ (F := F)) Variants.none c none) Set.univ
        (cc0__fcos_kernel i M0 h0 M1 h1 M2 h2 M3 h3 M4 h4 M5 h5 M6 h6 M7 h7 M8 h8) Q := by
  by_cases hc1 : cond1 i = 1#1
  · have hc2 : ¬ k0_cond2 i = 1#1 := fun h => hnb ⟨hc1, h⟩
    let R := runFirst i hc1 hc2 c M0 h0 M1 h1 M2 h2 M3 h3 M4 h4 M5 h5 M6 h6 M7 h7 M8 h8 f0 f1 f2 f3 f4 f5 f6 f7 f8
    iintro ⟨H0, H1, H2, H3, H4, H5, H6, H7, H8, Hk⟩
    iapply (R.2 Set.univ Q)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply Hk
  by_cases hc2 : k0_cond2 i = 1#1
  · let R := runLast i hc1 hc2 c M0 h0 M1 h1 M2 h2 M3 h3 M4 h4 M5 h5 M6 h6 M7 h7 M8 h8 f0 f1 f2 f3 f4 f5 f6 f7 f8
    iintro ⟨H0, H1, H2, H3, H4, H5, H6, H7, H8, Hk⟩
    iapply (R.2 Set.univ Q)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply Hk
  · let R := runMid i hc1 hc2 c M0 h0 M1 h1 M2 h2 M3 h3 M4 h4 M5 h5 M6 h6 M7 h7 M8 h8 f0 f1 f2 f3 f4 f5 f6 f7 f8
    iintro ⟨H0, H1, H2, H3, H4, H5, H6, H7, H8, Hk⟩
    iapply (R.2 Set.univ Q)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply Hk

/-- Every window is forgotten: the frame reads none of what the body leaves in a staging buffer. -/
def forgets0 : Fin 8 → Bool := fun _ => true

/-- The proof data of the frame: the arrays as the region finds them, nothing named of what the body leaves. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem fA_eq (c : Dev nD) (w : Fin cfg0.W) : (fdats m 0 c).A w = V m c (Pipeline.arrRef spec0 w) := by dsimp only [fdats]

/-- The region's invariant: the accumulator at some contents, the generator register at some state. -/
theorem PhiA0_eq (c : Dev nD) :
    (Pipeline.ΦA spec0 c : sProp 𝕄) = iprop((∃ f : Bf (F := F) c scM, pt c scM f) ∗ (∃ r, prngReg c r)) := by
  unfold Pipeline.ΦA; rw [scopedRest0_eq]

/-- What the body is called with and returns, window by window. -/
def fbuf (c : Dev nD) (t : Fin cfg0.N) : sProp 𝕄 :=
  iprop((∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X))

theorem fsound (c : Dev nD) (t : Fin cfg0.N) :
    iprop((fdats (F := F) m 0 c).Φ t.castSucc ∗ (fdats (F := F) m 0 c).owesAt () t.castSucc ∗ fbuf c t)
      ⊢ wp frame (wpE (defs₀ (F := F)) Variants.none c none) Set.univ (bodyAt0 t)
          (fun _ => iprop((fdats (F := F) m 0 c).Φ t.succ ∗ (fdats (F := F) m 0 c).owesAt () t.succ ∗ fbuf c t)) := by
  unfold bodyAt0 fbuf
  rw [show (fdats (F := F) m 0 c).owesAt () t.succ = (fdats (F := F) m 0 c).owesAt () t.castSucc from rfl,
    show (fdats (F := F) m 0 c).Φ t.succ = Pipeline.ΦA spec0 c from rfl,
    show (fdats (F := F) m 0 c).Φ t.castSucc = Pipeline.ΦA spec0 c from rfl, PhiA0_eq,
    (hstage0_0 ((cfg0.slots t 0).cast nbuf0_0)).exists_owns_eq,
    (hstage0_1 ((cfg0.slots t 1).cast nbuf0_1)).exists_owns_eq,
    (hstage0_2 ((cfg0.slots t 2).cast nbuf0_2)).exists_owns_eq,
    (hstage0_3 ((cfg0.slots t 3).cast nbuf0_3)).exists_owns_eq,
    (hstage0_4 ((cfg0.slots t 4).cast nbuf0_4)).exists_owns_eq,
    (hstage0_5 ((cfg0.slots t 5).cast nbuf0_5)).exists_owns_eq,
    (hstage0_6 ((cfg0.slots t 6).cast nbuf0_6)).exists_owns_eq,
    (hstage0_7 ((cfg0.slots t 7).cast nbuf0_7)).exists_owns_eq]
  iintro ⟨⟨⟨%f8, H8⟩, Hg⟩, HO, ⟨%f0, H0⟩, ⟨%f1, H1⟩, ⟨%f2, H2⟩, ⟨%f3, H3⟩, ⟨%f4, H4⟩, ⟨%f5, H5⟩, ⟨%f6, H6⟩, ⟨%f7, H7⟩⟩
  iapply (kernelAny (F := F) (grid0.coords t) (not_both t) c _ _ _ _ _ _ _ _ _ _ _ _ _ _ _ _ scM (Memref.isWhole_whole _) f0 f1 f2 f3 f4 f5 f6 f7 f8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro %g7 %g8 ⟨H0, H1, H2, H3, H4, H5, H6, H7, H8⟩
  isplitl [H8 Hg]
  · isplitl [H8]; · iexists _; iexact H8
    iexact Hg
  isplitl [HO]; · iexact HO
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

theorem defs₀_row (t : Fin cfg0.N) : defs₀ (F := F) .tc cfg0.body (cfg0.bodyArgs t (cfg0.slots t)) = bodyAt0 t := by
  unfold defs₀; rw [Defs.onTc_tc]

theorem fbody (c : Dev nD) :
    BodyObligation (fdats (F := F) m 0 c) (defs₀ (F := F)) Variants.none () Set.univ forgets0 := fun t => by
  rw [bigSep_W0, bigSep_W0, defs₀_row]
  exact triple_restated (fsound m c t) rfl .rfl fun _ => .rfl

/-- The buffers written after the region. -/
def tailSet : Finset (Ref sig .tc) := {main_call0_v5, main_v0_0, main_call0_v7, main_v0_1, main_call0_v9, main_v0_2}

theorem tail_writes : ∀ ops ∈ ([hostOps1] : List (List (HloOp τ sig (Elt F)))), ∀ op ∈ ops,
    ∀ b : Ref sig .tc, Proc.devRef .tc b ∈ op.writes → b ∈ tailSet := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals
    intro b hb
    by_contra hn
    simp only [StableHlo.unary_writes, StableHlo.reshape_writes, Finset.mem_singleton] at hb
    revert hb
    refine StableHlo.devRef_ne_of_ne ?_
    rintro rfl
    exact hn (by decide)

set_option backward.isDefEq.respectTransparency.types false in
/-- From any memory with zero counters the program terminates; the arrays it stages and the buffers it does not write
    end as the region finds them, and every counter ends at zero. -/
theorem frun :
    θ_run defs (onTc (τ := τ) (main (F := F))) (s₀ m ρ)
      (fun r => Pipeline.RDat.FramePostR (cfgs 0) (fun c => (fdats m 0 c).toRForget forgets0) tailSet (V m) r ∧ r.2.sem = fun _ => 0) :=
  Pipeline.θ_run_frame_around_T_forget (Q' := _) cfgs (fdats m) (0 : Fin 1) launch0 defs₀ Variants.none forgets0 tailSet m ρ main
    (hbody := fun c => (fbody m c).loose) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fA_eq m) (hΦ := fun _ _ => rfl)

/-- The frame: the arguments end unchanged and every counter at zero. -/
theorem frame_all :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(((h.1 c).2 main_arg0 (Finset.mem_sdiff.mpr ⟨Pipeline.mem_restRefs_of main_arg0 (by decide) (by decide), by decide⟩)).trans (V_main_arg0 m c)),
      (h.1.arr_in c 1 rfl).trans ((fA_eq m c 1).trans (V_main_arg1 m c)),
      (((h.1 c).2 main_arg2 (Finset.mem_sdiff.mpr ⟨Pipeline.mem_restRefs_of main_arg2 (by decide) (by decide), by decide⟩)).trans (V_main_arg2 m c)),
      (h.1.arr_in c 3 rfl).trans ((fA_eq m c 3).trans (V_main_arg3 m c)),
      (h.1.arr_in c 4 rfl).trans ((fA_eq m c 4).trans (V_main_arg4 m c)),
      (((h.1 c).2 main_arg5 (Finset.mem_sdiff.mpr ⟨Pipeline.mem_restRefs_of main_arg5 (by decide) (by decide), by decide⟩)).trans (V_main_arg5 m c)),
      (((h.1 c).2 main_arg6 (Finset.mem_sdiff.mpr ⟨Pipeline.mem_restRefs_of main_arg6 (by decide) (by decide), by decide⟩)).trans (V_main_arg6 m c))⟩, h.2⟩)
    (frun m ρ)

end Cert.Proof.KernelIdeal

end
-- ==== Proof.Claims.lean ====
module

public import proofs.«01_k».proof.Defs
public import proofs.«01_k».proof.Proof.KernelFrame
public import proofs.«01_k».proof.Proof.KernelIdealFrame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Claims

theorem frame_p : Cert.quiescent_Kernel := fun m ρ _ => Cert.Proof.Kernel.frame_all m ρ

theorem frame_pi : Cert.quiescent_KernelIdeal := fun m ρ _ => Cert.Proof.KernelIdeal.frame_all m ρ

theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The two named constants: the table gives each name the real it was computed from. -/
theorem preserves : Cert.preserves_Kernel_KernelIdeal :=
  ⟨IdealRules.named_const.statement Cert.KernelIdeal.κ "pad_bce" .f32 0x425DCE9E#32 ((80 * (Real.log 2) : ℝ) : EReal) rfl,
    IdealRules.named_const.statement Cert.KernelIdeal.κ "inv_n" .f32 0x3444A383#32 ((1 / 5460480 : ℝ) : EReal) rfl⟩

end Cert.Proof.Claims

end
-- ==== Proof.Precondition.lean ====
module

public import proofs.«01_k».proof.Pre_labels_and_logits
public import Idealize.ShloMosaic.Lib.ReduceAll
public import Idealize.ShloMosaic.Lib.ValueIdx

@[expose] public section

set_option maxRecDepth 16384

noncomputable section

/-! What the precondition says of the labels and of the scores. -/

namespace Cert.Proof.Pre

open Idealize.ShloMosaic Cert.Pre_labels_and_logits

/-- The shape relations of the precondition. -/
theorem facts : Cert.Pre_labels_and_logits.Facts where
  bcast_S_S4x50 := by decide
  reducesTo_S4x50_S_d0_1 := by decide
  h_S_ := by decide
  bcast_S_S4x17064x80 := by decide
  reducesTo_S4x17064x80_S_d0_1_2 := by decide

theorem ofBits_bot : Ideal.ofBits .f32 0xFF800000#32 = ⊥ := by simp [Ideal.ofBits, Ideal.ieee]

variable [Cert.Pre_labels_and_logits.Facts]
variable (x0 : FVec Ideal S17064x2 .f32) (x1 : FVec Ideal S4x17064x80 .f32) (x2 : FVec Ideal S4x17064x4 .f32) (x3 : FVec Ideal S4x17064 .f32)
  (x4 : FVec Ideal S4x50x4 .f32) (x5 : IVec S4x50 32) (x6 : FVec Ideal S4x50 .f32)

theorem both (h : fn (F := Ideal) x0 x1 x2 x3 x4 x5 x6 = fun _ => 1#1) : (∀ i, 1 ≤ (x5 i).toInt) ∧ ∀ i, x1 i ≠ (⊥ : EReal) := by
  haveI : Subsingleton S_.Idx := ⟨fun a b => funext fun k => k.elim0⟩
  have h0 := congrFun h (fun k => k.elim0)
  unfold fn at h0
  dsimp only at h0
  obtain ⟨ha, hb⟩ := IntOp.andi_eq_one.1 h0
  refine ⟨fun i => ?_, fun i => ?_⟩
  · exact IntOp.cmpi_sge.1 (Host.reduce_andi_all _ _ _ _ _ ha i)
  · have e := Host.reduce_andi_all _ _ _ _ _ hb i
    intro hbot
    have e' : BitVec.ofBool (decide (Ideal.ofBits .f32 0xFF800000#32 < x1 i)) = 1#1 := e
    rw [hbot, ofBits_bot] at e'
    simp at e'

end Cert.Proof.Pre

end
-- ==== Proof.Image.lean ====
module

public import proofs.«01_k».proof.Proof.Gen.KernelIdeal.Frame
public import proofs.«01_k».proof.Proof.Gen.KernelIdeal.Skeleton

@[expose] public section

set_option maxRecDepth 16384

noncomputable section

/-! One image of one block of points, as functions of what is loaded. -/

namespace Cert.Proof.Img

open Cert.KernelIdeal Cert.KernelIdeal.Gen
open Idealize.ShloMosaic Idealize.ShloMosaic.TcCoe Idealize.ShloMosaic.Tactic

variable {F : FTy → Type} [FloatOps F] [Named F]

/-- The point numbers of the block, along a row. -/
def colPt (k : BitVec 32) : IVec S1x2048 32 :=
  addi (broadcast S1x2048 (Scalar.muli k (2048#32))) (iota .tc S1x2048 32 [1] iota_S1x2048_d1_w32)

/-- The lower distance bound of each point. -/
def lo (q : IVec S1x2048 32) : FVec F S1x2048 .f32 :=
  select (cmpi .slt q (broadcast S1x2048 (12800#32))) (broadcast S1x2048 (Scalar.ofBits .f32 0xBF800000#32)) (select (cmpi .slt q (broadcast S1x2048 (16000#32))) (broadcast S1x2048 (Scalar.ofBits .f32 0x42800000#32)) (select (cmpi .slt q (broadcast S1x2048 (16800#32))) (broadcast S1x2048 (Scalar.ofBits .f32 0x43000000#32)) (select (cmpi .slt q (broadcast S1x2048 (17008#32))) (broadcast S1x2048 (Scalar.ofBits .f32 0x43800000#32)) (broadcast S1x2048 (Scalar.ofBits .f32 0x44000000#32)))))

/-- The upper distance bound of each point. -/
def hi (q : IVec S1x2048 32) : FVec F S1x2048 .f32 :=
  select (cmpi .slt q (broadcast S1x2048 (12800#32))) (broadcast S1x2048 (Scalar.ofBits .f32 0x42800000#32)) (select (cmpi .slt q (broadcast S1x2048 (16000#32))) (broadcast S1x2048 (Scalar.ofBits .f32 0x43000000#32)) (select (cmpi .slt q (broadcast S1x2048 (16800#32))) (broadcast S1x2048 (Scalar.ofBits .f32 0x43800000#32)) (select (cmpi .slt q (broadcast S1x2048 (17008#32))) (broadcast S1x2048 (Scalar.ofBits .f32 0x44000000#32)) (broadcast S1x2048 (Scalar.ofBits .f32 0x49742400#32)))))

/-- Whether the point exists. -/
def inr (q : IVec S1x2048 32) : IVec S1x2048 1 :=
  cmpi .slt q (broadcast S1x2048 (17064#32))

/-- Whether the point exists, along a column. -/
def colv (k : BitVec 32) : IVec S2048x1 1 :=
  cmpi .slt (addi (broadcast S2048x1 (Scalar.muli k (2048#32))) (iota .tc S2048x1 32 [0] iota_S2048x1_d0_w32)) (broadcast S2048x1 (17064#32))

/-- How many points of the block do not exist. -/
def npad (k : BitVec 32) : F .f32 :=
  Scalar.sitofp .f32 (Scalar.maxsi (Scalar.subi (Scalar.muli (Scalar.addi k (1#32)) (2048#32)) (17064#32)) (0#32))

/-- The area of each box at each point, or a large number where the box does not apply. -/
def area (xs ys lo hi : FVec F S1x2048 .f32) (gtb : FVec F S50x4 .f32) (gta : FVec F S50x1 .f32) : FVec F S50x2048 .f32 :=
  let v65 : FVec F S50x2048 .f32 := subf (broadcastTo S50x2048 xs broadcasts_S1x2048_S50x2048) (broadcastTo S50x2048 (extractStridedSlice S50x1 ![0, 0] gtb slices_S50x4_o0_0_S50x1) broadcasts_S50x1_S50x2048)
  let v69 : FVec F S50x2048 .f32 := subf (broadcastTo S50x2048 ys broadcasts_S1x2048_S50x2048) (broadcastTo S50x2048 (extractStridedSlice S50x1 ![0, 1] gtb slices_S50x4_o0_1_S50x1) broadcasts_S50x1_S50x2048)
  let v73 : FVec F S50x2048 .f32 := subf (broadcastTo S50x2048 (extractStridedSlice S50x1 ![0, 2] gtb slices_S50x4_o0_2_S50x1) broadcasts_S50x1_S50x2048) (broadcastTo S50x2048 xs broadcasts_S1x2048_S50x2048)
  let v77 : FVec F S50x2048 .f32 := subf (broadcastTo S50x2048 (extractStridedSlice S50x1 ![0, 3] gtb slices_S50x4_o0_3_S50x1) broadcasts_S50x1_S50x2048) (broadcastTo S50x2048 ys broadcasts_S1x2048_S50x2048)
  let v80 : FVec F S50x2048 .f32 := minimumf (minimumf v65 v69) (minimumf v73 v77)
  select (andi (andi (cmpf .ogt v80 (broadcast S50x2048 (Scalar.ofBits .f32 0x00000000#32))) (cmpf .oge v80 (broadcastTo S50x2048 lo broadcasts_S1x2048_S50x2048))) (cmpf .ole (maximumf (maximumf v65 v69) (maximumf v73 v77)) (broadcastTo S50x2048 hi broadcasts_S1x2048_S50x2048))) (broadcastTo S50x2048 (shapeCast S50x1 gta shapeCasts_S50x1_S50x1) broadcasts_S50x1_S50x2048) (broadcast S50x2048 (Scalar.ofBits .f32 0x49742400#32))

/-- The least area at each point. -/
def minA (a : FVec F S50x2048 .f32) : FVec F S1x2048 .f32 :=
  shapeCast S1x2048 (multiReduction .minimumf [0] S2048 a 0x7F800000#32 reduces_S50x2048_S2048 (.inl rfl) rfl) shapeCasts_S2048_S1x2048

/-- The first box with the least area. -/
def ind (a : FVec F S50x2048 .f32) (mn : FVec F S1x2048 .f32) : IVec S1x2048 32 :=
  shapeCast S1x2048 (multiReductionI .minsi [0] S2048 (select (cmpf .oeq a (broadcastTo S50x2048 mn broadcasts_S1x2048_S50x2048)) (broadcastTo S50x2048 (shapeCast S50x1 (iota .tc S50x1 32 [0] iota_S50x1_d0_w32) shapeCasts_S50x1_S50x1) broadcasts_S50x1_S50x2048) (broadcast S50x2048 (50#32))) 2147483647#32 reduces_S50x2048_S2048 rfl) shapeCasts_S2048_S1x2048

/-- Whether the point has a box. -/
def pos (mn : FVec F S1x2048 .f32) (inr : IVec S1x2048 1) : IVec S1x2048 1 :=
  andi (cmpf .olt mn (broadcast S1x2048 (Scalar.ofBits .f32 0x49742400#32))) inr

/-- The one-hot matrix of the chosen boxes. -/
def hot (ind : IVec S1x2048 32) (pos : IVec S1x2048 1) : FVec F S50x2048 .f32 :=
  select (andi (cmpi .eq (broadcastTo S50x2048 (iota .tc S50x1 32 [0] iota_S50x1_d0_w32) broadcasts_S50x1_S50x2048) (broadcastTo S50x2048 ind broadcasts_S1x2048_S50x2048)) (broadcastTo S50x2048 pos broadcasts_S1x2048_S50x2048)) (broadcast S50x2048 (Scalar.ofBits .f32 0x3F800000#32)) (broadcast S50x2048 (Scalar.ofBits .f32 0x00000000#32))

/-- The coordinates of the chosen boxes. -/
def sel (gtb : FVec F S50x4 .f32) (hot : FVec F S50x2048 .f32) : FVec F S4x2048 .f32 :=
  matmul dot_S50x4_S50x2048_S4x2048_0_0_1_1_n_n none gtb hot (constant S4x2048 .f32 0x00000000#32)

/-- The distance to the left side of the chosen box. -/
def tl (xs : FVec F S1x2048 .f32) (pos : IVec S1x2048 1) (sel : FVec F S4x2048 .f32) : FVec F S1x2048 .f32 :=
  select pos (subf xs (extractStridedSlice S1x2048 ![0, 0] sel slices_S4x2048_o0_0_S1x2048)) (broadcast S1x2048 (Scalar.ofBits .f32 0x3F800000#32))

/-- The distance to the top side of the chosen box. -/
def tt (ys : FVec F S1x2048 .f32) (pos : IVec S1x2048 1) (sel : FVec F S4x2048 .f32) : FVec F S1x2048 .f32 :=
  select pos (subf ys (extractStridedSlice S1x2048 ![1, 0] sel slices_S4x2048_o1_0_S1x2048)) (broadcast S1x2048 (Scalar.ofBits .f32 0x3F800000#32))

/-- The distance to the right side of the chosen box. -/
def tr (xs : FVec F S1x2048 .f32) (pos : IVec S1x2048 1) (sel : FVec F S4x2048 .f32) : FVec F S1x2048 .f32 :=
  select pos (subf (extractStridedSlice S1x2048 ![2, 0] sel slices_S4x2048_o2_0_S1x2048) xs) (broadcast S1x2048 (Scalar.ofBits .f32 0x3F800000#32))

/-- The distance to the bottom side of the chosen box. -/
def tb (ys : FVec F S1x2048 .f32) (pos : IVec S1x2048 1) (sel : FVec F S4x2048 .f32) : FVec F S1x2048 .f32 :=
  select pos (subf (extractStridedSlice S1x2048 ![3, 0] sel slices_S4x2048_o3_0_S1x2048) ys) (broadcast S1x2048 (Scalar.ofBits .f32 0x3F800000#32))

/-- The class scores, with nought for the points that do not exist. -/
def xm (colv : IVec S2048x1 1) (x : FVec F S2048x80 .f32) : FVec F S2048x80 .f32 :=
  select (broadcastTo S2048x80 (shapeCast S2048x1 colv shapeCasts_S2048x1_S2048x1) broadcasts_S2048x1_S2048x80) x (broadcast S2048x80 (Scalar.ofBits .f32 0x00000000#32))

/-- The part of the class loss without labels. -/
def dense (x : FVec F S2048x80 .f32) : F .f32 :=
  let v134 : FVec F S2048x80 .f32 := absf x
  extractAt ![0, 0, 0] (shapeCast S1x1x1 (multiReduction .add [1, 2] S1 (shapeCast S1x2048x80 (addf (mulf (addf x v134) (broadcast S2048x80 (Scalar.ofBits .f32 0x3F000000#32))) (log1p (exp (subf (broadcast S2048x80 (Scalar.ofBits .f32 0x00000000#32)) v134)))) shapeCasts_S2048x80_S1x2048x80) 0x00000000#32 reduces_S1x2048x80_S1 (.inl rfl) rfl) shapeCasts_S1_S1x1x1) inpos_S1x1x1_p0_0_0

/-- The sum of the scores at the labels. -/
def pick (hot : FVec F S50x2048 .f32) (x : FVec F S2048x80 .f32) (gtl : IVec S50x1 32) : F .f32 :=
  extractAt ![0, 0, 0] (shapeCast S1x1x1 (multiReduction .add [1, 2] S1 (shapeCast S1x50x80 (select (cmpi .eq (broadcastTo S50x80 gtl broadcasts_S50x1_S50x80) (broadcastTo S50x80 (addi (iota .tc S1x80 32 [1] iota_S1x80_d1_w32) (broadcast S1x80 (1#32))) broadcasts_S1x80_S50x80)) (matmul dot_S50x2048_S2048x80_S50x80_1_0_0_1_n_n none (truncf .bf16 hot bitsLt_bf16_f32) (truncf .bf16 x bitsLt_bf16_f32) (constant S50x80 .f32 0x00000000#32)) (broadcast S50x80 (Scalar.ofBits .f32 0x00000000#32))) shapeCasts_S50x80_S1x50x80) 0x00000000#32 reduces_S1x50x80_S1 (.inl rfl) rfl) shapeCasts_S1_S1x1x1) inpos_S1x1x1_p0_0_0

/-- The class loss of the image. -/
def cls (npad dense pick : F .f32) : F .f32 :=
  Scalar.subf (Scalar.subf dense (Scalar.mulf npad (Named.named κ "pad_bce" 0x425DCE9E#32))) pick

/-- The centre target. -/
def ctrT (tl tt tr tb : FVec F S1x2048 .f32) : FVec F S1x2048 .f32 :=
  mulf (divf (minimumf tl tr) (maximumf (maximumf tl tr) (broadcast S1x2048 (Scalar.ofBits .f32 0x358637BD#32)))) (divf (minimumf tt tb) (maximumf (maximumf tt tb) (broadcast S1x2048 (Scalar.ofBits .f32 0x358637BD#32))))

/-- A predicted distance. -/
def pr0 (box : FVec F S4x2048 .f32) (pos : IVec S1x2048 1) : FVec F S1x2048 .f32 :=
  select pos (maximumf (extractStridedSlice S1x2048 ![0, 0] box slices_S4x2048_o0_0_S1x2048) (broadcast S1x2048 (Scalar.ofBits .f32 0x00000000#32))) (broadcast S1x2048 (Scalar.ofBits .f32 0x3F800000#32))

/-- A predicted distance. -/
def pr1 (box : FVec F S4x2048 .f32) (pos : IVec S1x2048 1) : FVec F S1x2048 .f32 :=
  select pos (maximumf (extractStridedSlice S1x2048 ![1, 0] box slices_S4x2048_o1_0_S1x2048) (broadcast S1x2048 (Scalar.ofBits .f32 0x00000000#32))) (broadcast S1x2048 (Scalar.ofBits .f32 0x3F800000#32))

/-- A predicted distance. -/
def pr2 (box : FVec F S4x2048 .f32) (pos : IVec S1x2048 1) : FVec F S1x2048 .f32 :=
  select pos (maximumf (extractStridedSlice S1x2048 ![2, 0] box slices_S4x2048_o2_0_S1x2048) (broadcast S1x2048 (Scalar.ofBits .f32 0x00000000#32))) (broadcast S1x2048 (Scalar.ofBits .f32 0x3F800000#32))

/-- A predicted distance. -/
def pr3 (box : FVec F S4x2048 .f32) (pos : IVec S1x2048 1) : FVec F S1x2048 .f32 :=
  select pos (maximumf (extractStridedSlice S1x2048 ![3, 0] box slices_S4x2048_o3_0_S1x2048) (broadcast S1x2048 (Scalar.ofBits .f32 0x00000000#32))) (broadcast S1x2048 (Scalar.ofBits .f32 0x3F800000#32))

/-- The overlap loss. -/
def iouL (tl tt tr tb pl pt pr pb : FVec F S1x2048 .f32) : FVec F S1x2048 .f32 :=
  let v220 : FVec F S1x2048 .f32 := mulf (addf (minimumf pl tl) (minimumf pr tr)) (addf (minimumf pt tt) (minimumf pb tb))
  subf (broadcast S1x2048 (Scalar.ofBits .f32 0x00000000#32)) (log (maximumf (divf (addf v220 (broadcast S1x2048 (Scalar.ofBits .f32 0x3F800000#32))) (addf (subf (addf (mulf (addf tl tr) (addf tt tb)) (mulf (addf pl pr) (addf pt pb))) v220) (broadcast S1x2048 (Scalar.ofBits .f32 0x3F800000#32)))) (broadcast S1x2048 (Scalar.ofBits .f32 0x358637BD#32))))

/-- The centre loss at each point. -/
def ctrB (c t : FVec F S1x2048 .f32) : FVec F S1x2048 .f32 :=
  addf (subf (maximumf c (broadcast S1x2048 (Scalar.ofBits .f32 0x00000000#32))) (mulf c t)) (log1p (exp (subf (broadcast S1x2048 (Scalar.ofBits .f32 0x00000000#32)) (absf c))))

/-- The sum over the points that have a box. -/
def total (pos : IVec S1x2048 1) (v : FVec F S1x2048 .f32) : F .f32 :=
  extractAt ![0, 0, 0] (shapeCast S1x1x1 (multiReduction .add [1, 2] S1 (shapeCast S1x1x2048 (select pos v (broadcast S1x2048 (Scalar.ofBits .f32 0x00000000#32))) shapeCasts_S1x2048_S1x1x2048) 0x00000000#32 reduces_S1x1x2048_S1 (.inl rfl) rfl) shapeCasts_S1_S1x1x1) inpos_S1x1x1_p0_0_0

/-! The loaded pieces of one image. -/

section Loads

variable (j : Fin 4)

theorem inbC : ∀ a, (![(j : Nat), 0, 0] : Fin 3 → Nat) a + S1x2048x80.size a ≤ S4x2048x80.size a := by
  intro a; have := j.2; fin_cases a <;> simp [S1x2048x80, S4x2048x80] <;> omega

theorem inbB : ∀ a, (![(j : Nat), 0, 0] : Fin 3 → Nat) a + S1x4x2048.size a ≤ S4x4x2048.size a := by
  intro a; have := j.2; fin_cases a <;> simp [S1x4x2048, S4x4x2048] <;> omega

theorem inbT : ∀ a, (![(j : Nat), 0] : Fin 2 → Nat) a + S1x2048.size a ≤ S4x2048.size a := by
  intro a; have := j.2; fin_cases a <;> simp [S1x2048, S4x2048] <;> omega

theorem inbG : ∀ a, (![(j : Nat), 0, 0] : Fin 3 → Nat) a + S1x50x4.size a ≤ S4x50x4.size a := by
  intro a; have := j.2; fin_cases a <;> simp [S1x50x4, S4x50x4] <;> omega

theorem inbL : ∀ a, (![(j : Nat), 0, 0] : Fin 3 → Nat) a + S1x50x1.size a ≤ S4x50x1.size a := by
  intro a; have := j.2; fin_cases a <;> simp [S1x50x1, S4x50x1] <;> omega

/-- The first coordinates of the points. -/
def ldX (X : Vec F S2x2048 .f32) : FVec F S1x2048 .f32 :=
  shapeCast S1x2048 (View.ld (Val := Elt F) (e' := .f32) X (Rect.unit (s := S2x2048) ![0, 0] S1x2048.size inb_S2x2048_S1x2048_0_0)) shapeCasts_S1x2048_S1x2048

/-- The second coordinates of the points. -/
def ldY (X : Vec F S2x2048 .f32) : FVec F S1x2048 .f32 :=
  shapeCast S1x2048 (View.ld (Val := Elt F) (e' := .f32) X (Rect.unit (s := S2x2048) ![1, 0] S1x2048.size inb_S2x2048_S1x2048_1_0)) shapeCasts_S1x2048_S1x2048

/-- The class scores of the image. -/
def ldC (X : Vec F S4x2048x80 .f32) : FVec F S2048x80 .f32 :=
  shapeCast S2048x80 (View.ld (Val := Elt F) (e' := .f32) X (Rect.unit (s := S4x2048x80) ![j, 0, 0] S1x2048x80.size (inbC j))) shapeCasts_S1x2048x80_S2048x80

/-- The predicted distances of the image. -/
def ldB (X : Vec F S4x4x2048 .f32) : FVec F S4x2048 .f32 :=
  shapeCast S4x2048 (View.ld (Val := Elt F) (e' := .f32) X (Rect.unit (s := S4x4x2048) ![j, 0, 0] S1x4x2048.size (inbB j))) shapeCasts_S1x4x2048_S4x2048

/-- The predicted centre scores of the image. -/
def ldT (X : Vec F S4x2048 .f32) : FVec F S1x2048 .f32 :=
  View.ld (Val := Elt F) (e' := .f32) X (Rect.unit (s := S4x2048) ![j, 0] S1x2048.size (inbT j))

/-- The boxes of the image. -/
def ldG (X : Vec F S4x50x4 .f32) : FVec F S50x4 .f32 :=
  shapeCast S50x4 (View.ld (Val := Elt F) (e' := .f32) X (Rect.unit (s := S4x50x4) ![j, 0, 0] S1x50x4.size (inbG j))) shapeCasts_S1x50x4_S50x4

/-- The labels of the image. -/
def ldL (X : Vec F S4x50x1 .i32) : IVec S50x1 32 :=
  shapeCast S50x1 (View.ld (Val := Elt F) (e' := .i32) X (Rect.unit (s := S4x50x1) ![j, 0, 0] S1x50x1.size (inbL j))) shapeCasts_S1x50x1_S50x1

/-- The areas of the boxes of the image. -/
def ldA (X : Vec F S4x50x1 .f32) : FVec F S50x1 .f32 :=
  shapeCast S50x1 (View.ld (Val := Elt F) (e' := .f32) X (Rect.unit (s := S4x50x1) ![j, 0, 0] S1x50x1.size (inbL j))) shapeCasts_S1x50x1_S50x1

end Loads

/-! The four sums of one block of points. -/

section Block

variable (k : BitVec 32) (X0 : Vec F S2x2048 .f32) (X1 : Vec F S4x2048x80 .f32) (X2 : Vec F S4x4x2048 .f32) (X3 : Vec F S4x2048 .f32)
  (X4 : Vec F S4x50x4 .f32) (X5 : Vec F S4x50x1 .i32) (X6 : Vec F S4x50x1 .f32) (j : Fin 4)

/-- The areas of the image. -/
def areaI : FVec F S50x2048 .f32 :=
  area (ldX X0) (ldY X0) (lo (colPt k)) (hi (colPt k)) (ldG j X4) (ldA j X6)

/-- Which points have a box. -/
def posI : IVec S1x2048 1 := pos (minA (areaI k X0 X4 X6 j)) (inr (colPt k))

/-- The one-hot matrix of the image. -/
def hotI : FVec F S50x2048 .f32 :=
  hot (ind (areaI k X0 X4 X6 j) (minA (areaI k X0 X4 X6 j))) (posI k X0 X4 X6 j)

/-- The chosen boxes of the image. -/
def selI : FVec F S4x2048 .f32 := sel (ldG j X4) (hotI k X0 X4 X6 j)

/-- The centre target of the image. -/
def ctrI : FVec F S1x2048 .f32 :=
  ctrT (tl (ldX X0) (posI k X0 X4 X6 j) (selI k X0 X4 X6 j)) (tt (ldY X0) (posI k X0 X4 X6 j) (selI k X0 X4 X6 j))
    (tr (ldX X0) (posI k X0 X4 X6 j) (selI k X0 X4 X6 j)) (tb (ldY X0) (posI k X0 X4 X6 j) (selI k X0 X4 X6 j))

/-- The overlap loss of the image. -/
def iouI : FVec F S1x2048 .f32 :=
  iouL (tl (ldX X0) (posI k X0 X4 X6 j) (selI k X0 X4 X6 j)) (tt (ldY X0) (posI k X0 X4 X6 j) (selI k X0 X4 X6 j))
    (tr (ldX X0) (posI k X0 X4 X6 j) (selI k X0 X4 X6 j)) (tb (ldY X0) (posI k X0 X4 X6 j) (selI k X0 X4 X6 j))
    (pr0 (ldB j X2) (posI k X0 X4 X6 j)) (pr1 (ldB j X2) (posI k X0 X4 X6 j))
    (pr2 (ldB j X2) (posI k X0 X4 X6 j)) (pr3 (ldB j X2) (posI k X0 X4 X6 j))

/-- The class loss of the image. -/
def clsS : F .f32 :=
  cls (npad k) (dense (xm (colv k) (ldC j X1))) (pick (hotI k X0 X4 X6 j) (xm (colv k) (ldC j X1)) (ldL j X5))

/-- The weighted overlap loss of the image. -/
def iouS : F .f32 :=
  total (posI k X0 X4 X6 j) (mulf (iouI k X0 X2 X4 X6 j) (ctrI k X0 X4 X6 j))

/-- The weight of the image. -/
def wS : F .f32 := total (posI k X0 X4 X6 j) (ctrI k X0 X4 X6 j)

/-- The centre loss of the image. -/
def ctrS : F .f32 := total (posI k X0 X4 X6 j) (ctrB (ldT j X3) (ctrI k X0 X4 X6 j))

/-- Four terms summed from nought. -/
def sum4 (f : Fin 4 → F .f32) : F .f32 :=
  Scalar.addf (Scalar.addf (Scalar.addf (Scalar.addf (Scalar.ofBits .f32 0x00000000#32) (f 0)) (f 1)) (f 2)) (f 3)

/-- The four sums of a block. -/
def blk : Fin 4 → F .f32
  | 0 => sum4 (clsS k X0 X1 X4 X5 X6)
  | 1 => sum4 (iouS k X0 X2 X4 X6)
  | 2 => sum4 (wS k X0 X4 X6)
  | 3 => sum4 (ctrS k X0 X3 X4 X6)

end Block

end Cert.Proof.Img
-- ==== Proof.Words.lean ====
module

public import proofs.«01_k».proof.Proof.KernelIdealBody
public import proofs.«01_k».proof.Proof.Image
public import Idealize.ShloMosaic.Lib.WritesUnit
public import Idealize.ShloMosaic.Lib.ValueIdx

@[expose] public section

set_option maxRecDepth 16384

noncomputable section

/-! What each kind of step leaves in the four sums and in the result. -/

namespace Cert.Proof.KernelIdeal

open Cert.KernelIdeal Cert.KernelIdeal.Gen
open Idealize.ShloMosaic Idealize.ShloMosaic.TcCoe Idealize.ShloMosaic.Tactic
open Cert.Proof

variable {F : FTy → Type} [FloatOps F] [Named F]

/-- An index of the four sums. -/
def at4 (j : Fin 4) : S4.Idx := ValueIdx.ix1 j

theorem at4_surj (x : S4.Idx) : ∃ j, x = at4 j := ⟨x 0, ValueIdx.eq_ix1 x⟩

/-- A single entry read is the entry. -/
theorem rd4 (c : Dev nD) (M8 : Memref sig .tc .smem S4 .f32) (f8 : Bf (F := F) c M8) (n : Fin 4)
    (inb : ∀ q, (![(n : Nat)] : Fin 1 → Nat) q + S1.size q ≤ S4.size q) (h : 0 < (Rect.unit (s := S4) ![(n : Nat)] S1.size inb).toLoadRect.shape.numel) :
    M8.view.readAt (Elt F) (Rect.unit (s := S4) ![(n : Nat)] S1.size inb).toLoadRect f8 (Shape.Idx.first h) = M8.view.read (Elt F) f8 (at4 n) :=
  congrArg (M8.view.read (Elt F) f8) (funext fun a => by fin_cases a; exact Fin.ext (by
    have h0 := (Shape.Idx.first h 0).2
    change _ + 1 * (Shape.Idx.first h 0).val = _
    have h1 : (Shape.Idx.first h 0).val = 0 := Nat.lt_one_iff.mp h0
    rw [h1]; rfl))

/-- Four single writes, the last first, leave their own entries. -/
theorem read4 {sig : RefSig} {κ : Kind} {sp : Space} (v : View sig κ sp S4 .f32) (f : v.ty.Contents (Elt F)) (a : Fin 4 → F .f32)
    (L : List (View.Piece (Elt F) S4 .f32)) (j : Fin 4) :
    v.read (Elt F) (v.writes (Elt F) f
      (⟨Rect.unit ![3] S1.size inb_S4_S1_3, fun _ => a 3⟩ :: ⟨Rect.unit ![2] S1.size inb_S4_S1_2, fun _ => a 2⟩ ::
       ⟨Rect.unit ![1] S1.size inb_S4_S1_1, fun _ => a 1⟩ :: ⟨Rect.unit ![0] S1.size inb_S4_S1_0, fun _ => a 0⟩ :: L)) (at4 j)
      = a j := by
  have hit : ∀ (n : Fin 4) (inb : ∀ q, (![(n : Nat)] : Fin 1 → Nat) q + S1.size q ≤ S4.size q) (w : F .f32) (M : List (View.Piece (Elt F) S4 .f32)),
      v.read (Elt F) (v.writes (Elt F) f (⟨Rect.unit ![(n : Nat)] S1.size inb, fun _ => w⟩ :: M)) (at4 n) = w :=
    fun n inb w M => View.read_writes_cons_unit_of_mem v f inb (fun _ => w) M (at4 n) (fun q => ⟨0, by fin_cases q; exact Nat.one_pos⟩) rfl
      (by intro q; fin_cases q; simp [at4])
  have miss : ∀ (n : Fin 4) (inb : ∀ q, (![(n : Nat)] : Fin 1 → Nat) q + S1.size q ≤ S4.size q) (w : F .f32) (M : List (View.Piece (Elt F) S4 .f32)), j ≠ n →
      v.read (Elt F) (v.writes (Elt F) f (⟨Rect.unit ![(n : Nat)] S1.size inb, fun _ => w⟩ :: M)) (at4 j) = v.read (Elt F) (v.writes (Elt F) f M) (at4 j) :=
    fun n inb w M h => View.read_writes_cons_unit_of_not_mem v f inb (fun _ => w) M (at4 j) rfl 0
      (by have : (j : Nat) ≠ n := fun e => h (Fin.ext e)
          simp [at4, S1]; omega)
  by_cases h3 : j = 3
  · subst h3; exact hit 3 inb_S4_S1_3 _ _
  refine (miss 3 inb_S4_S1_3 _ _ h3).trans ?_
  by_cases h2 : j = 2
  · subst h2; exact hit 2 inb_S4_S1_2 _ _
  refine (miss 2 inb_S4_S1_2 _ _ h2).trans ?_
  by_cases h1 : j = 1
  · subst h1; exact hit 1 inb_S4_S1_1 _ _
  refine (miss 1 inb_S4_S1_1 _ _ h1).trans ?_
  by_cases h0 : j = 0
  · subst h0; exact hit 0 inb_S4_S1_0 _ _
  omega

section Totals

variable (i : grid0.Coords) (c : Dev nD)
    (M0 : Memref sig .tc .vmem S2x2048 .f32) (M1 : Memref sig .tc .vmem S4x2048x80 .f32)
    (M2 : Memref sig .tc .vmem S4x4x2048 .f32) (M3 : Memref sig .tc .vmem S4x2048 .f32)
    (M4 : Memref sig .tc .vmem S4x50x4 .f32) (M5 : Memref sig .tc .vmem S4x50x1 .i32)
    (M6 : Memref sig .tc .vmem S4x50x1 .f32) (M8 : Memref sig .tc .smem S4 .f32)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f8 : Bf (F := F) c M8)

set_option maxHeartbeats 1000000

theorem midCls : runMid.sl.v784 i c M0 M1 M4 M5 M6 f0 f1 f4 f5 f6 = Img.sum4 (Img.clsS (BitVec.ofNat 32 (i 0).val) (M0.view.read (Elt F) f0) (M1.view.read (Elt F) f1) (M4.view.read (Elt F) f4) (M5.view.read (Elt F) f5) (M6.view.read (Elt F) f6)) := by rfl

theorem midIou : runMid.sl.v858 i c M0 M2 M4 M6 f0 f2 f4 f6 = Img.sum4 (Img.iouS (BitVec.ofNat 32 (i 0).val) (M0.view.read (Elt F) f0) (M2.view.read (Elt F) f2) (M4.view.read (Elt F) f4) (M6.view.read (Elt F) f6)) := by rfl

theorem midW : runMid.sl.r_27 i c M0 M4 M6 M8 f0 f4 f6 f8 = Scalar.addf (runMid.sl.r_25 c M8 f8) (Img.sum4 (Img.wS (BitVec.ofNat 32 (i 0).val) (M0.view.read (Elt F) f0) (M4.view.read (Elt F) f4) (M6.view.read (Elt F) f6))) := by rfl

theorem midCtr : runMid.sl.r_26 i c M0 M3 M4 M6 f0 f3 f4 f6 = Img.sum4 (Img.ctrS (BitVec.ofNat 32 (i 0).val) (M0.view.read (Elt F) f0) (M3.view.read (Elt F) f3) (M4.view.read (Elt F) f4) (M6.view.read (Elt F) f6)) := by rfl

theorem firstCls : runFirst.sl.v784 i c M0 M1 M4 M5 M6 f0 f1 f4 f5 f6 = Img.sum4 (Img.clsS (BitVec.ofNat 32 (i 0).val) (M0.view.read (Elt F) f0) (M1.view.read (Elt F) f1) (M4.view.read (Elt F) f4) (M5.view.read (Elt F) f5) (M6.view.read (Elt F) f6)) := by rfl

theorem firstIou : runFirst.sl.v858 i c M0 M2 M4 M6 f0 f2 f4 f6 = Img.sum4 (Img.iouS (BitVec.ofNat 32 (i 0).val) (M0.view.read (Elt F) f0) (M2.view.read (Elt F) f2) (M4.view.read (Elt F) f4) (M6.view.read (Elt F) f6)) := by rfl

theorem firstW : runFirst.sl.r_28 i c M0 M4 M6 f0 f4 f6 = Scalar.addf (Scalar.ofBits .f32 0x00000000#32) (Img.sum4 (Img.wS (BitVec.ofNat 32 (i 0).val) (M0.view.read (Elt F) f0) (M4.view.read (Elt F) f4) (M6.view.read (Elt F) f6))) := by rfl

theorem firstCtr : runFirst.sl.r_27 i c M0 M3 M4 M6 f0 f3 f4 f6 = Img.sum4 (Img.ctrS (BitVec.ofNat 32 (i 0).val) (M0.view.read (Elt F) f0) (M3.view.read (Elt F) f3) (M4.view.read (Elt F) f4) (M6.view.read (Elt F) f6)) := by rfl

theorem lastCls : runLast.sl.v784 i c M0 M1 M4 M5 M6 f0 f1 f4 f5 f6 = Img.sum4 (Img.clsS (BitVec.ofNat 32 (i 0).val) (M0.view.read (Elt F) f0) (M1.view.read (Elt F) f1) (M4.view.read (Elt F) f4) (M5.view.read (Elt F) f5) (M6.view.read (Elt F) f6)) := by rfl

theorem lastIou : runLast.sl.v858 i c M0 M2 M4 M6 f0 f2 f4 f6 = Img.sum4 (Img.iouS (BitVec.ofNat 32 (i 0).val) (M0.view.read (Elt F) f0) (M2.view.read (Elt F) f2) (M4.view.read (Elt F) f4) (M6.view.read (Elt F) f6)) := by rfl

theorem lastW : runLast.sl.r_27 i c M0 M4 M6 M8 f0 f4 f6 f8 = Scalar.addf (runLast.sl.r_25 c M8 f8) (Img.sum4 (Img.wS (BitVec.ofNat 32 (i 0).val) (M0.view.read (Elt F) f0) (M4.view.read (Elt F) f4) (M6.view.read (Elt F) f6))) := by rfl

theorem lastCtr : runLast.sl.r_26 i c M0 M3 M4 M6 f0 f3 f4 f6 = Img.sum4 (Img.ctrS (BitVec.ofNat 32 (i 0).val) (M0.view.read (Elt F) f0) (M3.view.read (Elt F) f3) (M4.view.read (Elt F) f4) (M6.view.read (Elt F) f6)) := by rfl

end Totals

theorem accMid (i : grid0.Coords) (hc1 : ¬ cond1 i = 1#1) (hc2 : ¬ k0_cond2 i = 1#1) (c : Dev nD)
    (M0 : Memref sig .tc .vmem S2x2048 .f32) (h0 : M0.IsWhole) (M1 : Memref sig .tc .vmem S4x2048x80 .f32) (h1 : M1.IsWhole)
    (M2 : Memref sig .tc .vmem S4x4x2048 .f32) (h2 : M2.IsWhole) (M3 : Memref sig .tc .vmem S4x2048 .f32) (h3 : M3.IsWhole)
    (M4 : Memref sig .tc .vmem S4x50x4 .f32) (h4 : M4.IsWhole) (M5 : Memref sig .tc .vmem S4x50x1 .i32) (h5 : M5.IsWhole)
    (M6 : Memref sig .tc .vmem S4x50x1 .f32) (h6 : M6.IsWhole) (M7 : Memref sig .tc .vmem S1x128 .f32) (h7 : M7.IsWhole)
    (M8 : Memref sig .tc .smem S4 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) (j : Fin 4) :
    M8.view.read (Elt F) (runMid i hc1 hc2 c M0 h0 M1 h1 M2 h2 M3 h3 M4 h4 M5 h5 M6 h6 M7 h7 M8 h8 f0 f1 f2 f3 f4 f5 f6 f7 f8).1.2 (at4 j)
      = Scalar.addf (M8.view.read (Elt F) f8 (at4 j)) (Img.blk (BitVec.ofNat 32 (i 0).val) (M0.view.read (Elt F) f0) (M1.view.read (Elt F) f1) (M2.view.read (Elt F) f2) (M3.view.read (Elt F) f3) (M4.view.read (Elt F) f4) (M5.view.read (Elt F) f5) (M6.view.read (Elt F) f6) j) := by
  unfold runMid
  refine (read4 M8.view M8.view.junk
    ![k0_pay144 (runMid.sl.v784 i c M0 M1 M4 M5 M6 f0 f1 f4 f5 f6) (runMid.sl.r_23 c M8 f8), k0_pay145 (runMid.sl.v858 i c M0 M2 M4 M6 f0 f2 f4 f6) (runMid.sl.r_24 c M8 f8),
      runMid.sl.r_27 i c M0 M4 M6 M8 f0 f4 f6 f8, k0_pay1 (runMid.sl.r_26 i c M0 M3 M4 M6 f0 f3 f4 f6) (runMid.sl.r_28 c M8 f8)]
    [] j).trans ?_
  rcases j with ⟨_ | _ | _ | _ | j, hj⟩
  · exact congrArg₂ Scalar.addf (rd4 c M8 f8 0 _ _) (midCls i c M0 M1 M4 M5 M6 f0 f1 f4 f5 f6)
  · exact congrArg₂ Scalar.addf (rd4 c M8 f8 1 _ _) (midIou i c M0 M2 M4 M6 f0 f2 f4 f6)
  · exact (midW i c M0 M4 M6 M8 f0 f4 f6 f8).trans (congrArg (Scalar.addf · _) (rd4 c M8 f8 2 _ _))
  · exact congrArg₂ Scalar.addf (rd4 c M8 f8 3 _ _) (midCtr i c M0 M3 M4 M6 f0 f3 f4 f6)
  · omega

theorem accFirst (i : grid0.Coords) (hc1 : cond1 i = 1#1) (hc2 : ¬ k0_cond2 i = 1#1) (c : Dev nD)
    (M0 : Memref sig .tc .vmem S2x2048 .f32) (h0 : M0.IsWhole) (M1 : Memref sig .tc .vmem S4x2048x80 .f32) (h1 : M1.IsWhole)
    (M2 : Memref sig .tc .vmem S4x4x2048 .f32) (h2 : M2.IsWhole) (M3 : Memref sig .tc .vmem S4x2048 .f32) (h3 : M3.IsWhole)
    (M4 : Memref sig .tc .vmem S4x50x4 .f32) (h4 : M4.IsWhole) (M5 : Memref sig .tc .vmem S4x50x1 .i32) (h5 : M5.IsWhole)
    (M6 : Memref sig .tc .vmem S4x50x1 .f32) (h6 : M6.IsWhole) (M7 : Memref sig .tc .vmem S1x128 .f32) (h7 : M7.IsWhole)
    (M8 : Memref sig .tc .smem S4 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) (j : Fin 4) :
    M8.view.read (Elt F) (runFirst i hc1 hc2 c M0 h0 M1 h1 M2 h2 M3 h3 M4 h4 M5 h5 M6 h6 M7 h7 M8 h8 f0 f1 f2 f3 f4 f5 f6 f7 f8).1.2 (at4 j)
      = Scalar.addf (Scalar.ofBits .f32 0x00000000#32) (Img.blk (BitVec.ofNat 32 (i 0).val) (M0.view.read (Elt F) f0) (M1.view.read (Elt F) f1) (M2.view.read (Elt F) f2) (M3.view.read (Elt F) f3) (M4.view.read (Elt F) f4) (M5.view.read (Elt F) f5) (M6.view.read (Elt F) f6) j) := by
  unfold runFirst
  refine (read4 M8.view M8.view.junk
    ![k0_pay144 (runFirst.sl.v784 i c M0 M1 M4 M5 M6 f0 f1 f4 f5 f6) runFirst.sl.cst_275, k0_pay145 (runFirst.sl.v858 i c M0 M2 M4 M6 f0 f2 f4 f6) runFirst.sl.cst_275,
      runFirst.sl.r_28 i c M0 M4 M6 f0 f4 f6, k0_pay1 (runFirst.sl.r_27 i c M0 M3 M4 M6 f0 f3 f4 f6) runFirst.sl.cst_275]
    runFirst.sl.H8_4 j).trans ?_
  rcases j with ⟨_ | _ | _ | _ | j, hj⟩
  · exact congrArg (Scalar.addf _) (firstCls i c M0 M1 M4 M5 M6 f0 f1 f4 f5 f6)
  · exact congrArg (Scalar.addf _) (firstIou i c M0 M2 M4 M6 f0 f2 f4 f6)
  · exact (firstW i c M0 M4 M6 f0 f4 f6)
  · exact congrArg (Scalar.addf _) (firstCtr i c M0 M3 M4 M6 f0 f3 f4 f6)
  · omega

theorem accLast (i : grid0.Coords) (hc1 : ¬ cond1 i = 1#1) (hc2 : k0_cond2 i = 1#1) (c : Dev nD)
    (M0 : Memref sig .tc .vmem S2x2048 .f32) (h0 : M0.IsWhole) (M1 : Memref sig .tc .vmem S4x2048x80 .f32) (h1 : M1.IsWhole)
    (M2 : Memref sig .tc .vmem S4x4x2048 .f32) (h2 : M2.IsWhole) (M3 : Memref sig .tc .vmem S4x2048 .f32) (h3 : M3.IsWhole)
    (M4 : Memref sig .tc .vmem S4x50x4 .f32) (h4 : M4.IsWhole) (M5 : Memref sig .tc .vmem S4x50x1 .i32) (h5 : M5.IsWhole)
    (M6 : Memref sig .tc .vmem S4x50x1 .f32) (h6 : M6.IsWhole) (M7 : Memref sig .tc .vmem S1x128 .f32) (h7 : M7.IsWhole)
    (M8 : Memref sig .tc .smem S4 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) (j : Fin 4) :
    M8.view.read (Elt F) (runLast i hc1 hc2 c M0 h0 M1 h1 M2 h2 M3 h3 M4 h4 M5 h5 M6 h6 M7 h7 M8 h8 f0 f1 f2 f3 f4 f5 f6 f7 f8).1.2 (at4 j)
      = Scalar.addf (M8.view.read (Elt F) f8 (at4 j)) (Img.blk (BitVec.ofNat 32 (i 0).val) (M0.view.read (Elt F) f0) (M1.view.read (Elt F) f1) (M2.view.read (Elt F) f2) (M3.view.read (Elt F) f3) (M4.view.read (Elt F) f4) (M5.view.read (Elt F) f5) (M6.view.read (Elt F) f6) j) := by
  unfold runLast
  refine (read4 M8.view M8.view.junk
    ![k0_pay144 (runLast.sl.v784 i c M0 M1 M4 M5 M6 f0 f1 f4 f5 f6) (runLast.sl.r_23 c M8 f8), k0_pay145 (runLast.sl.v858 i c M0 M2 M4 M6 f0 f2 f4 f6) (runLast.sl.r_24 c M8 f8),
      runLast.sl.r_27 i c M0 M4 M6 M8 f0 f4 f6 f8, k0_pay1 (runLast.sl.r_26 i c M0 M3 M4 M6 f0 f3 f4 f6) (runLast.sl.r_28 c M8 f8)]
    [] j).trans ?_
  rcases j with ⟨_ | _ | _ | _ | j, hj⟩
  · exact congrArg₂ Scalar.addf (rd4 c M8 f8 0 _ _) (lastCls i c M0 M1 M4 M5 M6 f0 f1 f4 f5 f6)
  · exact congrArg₂ Scalar.addf (rd4 c M8 f8 1 _ _) (lastIou i c M0 M2 M4 M6 f0 f2 f4 f6)
  · exact (lastW i c M0 M4 M6 M8 f0 f4 f6 f8).trans (congrArg (Scalar.addf · _) (rd4 c M8 f8 2 _ _))
  · exact congrArg₂ Scalar.addf (rd4 c M8 f8 3 _ _) (lastCtr i c M0 M3 M4 M6 f0 f3 f4 f6)
  · omega

theorem outLast (i : grid0.Coords) (hc1 : ¬ cond1 i = 1#1) (hc2 : k0_cond2 i = 1#1) (c : Dev nD)
    (M0 : Memref sig .tc .vmem S2x2048 .f32) (h0 : M0.IsWhole) (M1 : Memref sig .tc .vmem S4x2048x80 .f32) (h1 : M1.IsWhole)
    (M2 : Memref sig .tc .vmem S4x4x2048 .f32) (h2 : M2.IsWhole) (M3 : Memref sig .tc .vmem S4x2048 .f32) (h3 : M3.IsWhole)
    (M4 : Memref sig .tc .vmem S4x50x4 .f32) (h4 : M4.IsWhole) (M5 : Memref sig .tc .vmem S4x50x1 .i32) (h5 : M5.IsWhole)
    (M6 : Memref sig .tc .vmem S4x50x1 .f32) (h6 : M6.IsWhole) (M7 : Memref sig .tc .vmem S1x128 .f32) (h7 : M7.IsWhole)
    (M8 : Memref sig .tc .smem S4 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) :
    M7.view.read (Elt F) (runLast i hc1 hc2 c M0 h0 M1 h1 M2 h2 M3 h3 M4 h4 M5 h5 M6 h6 M7 h7 M8 h8 f0 f1 f2 f3 f4 f5 f6 f7 f8).1.1
      = k0_pay2 (Scalar.addf (M8.view.read (Elt F) f8 (at4 0)) (Img.blk (BitVec.ofNat 32 (i 0).val) (M0.view.read (Elt F) f0) (M1.view.read (Elt F) f1) (M2.view.read (Elt F) f2) (M3.view.read (Elt F) f3) (M4.view.read (Elt F) f4) (M5.view.read (Elt F) f5) (M6.view.read (Elt F) f6) 0)) (Scalar.addf (M8.view.read (Elt F) f8 (at4 1)) (Img.blk (BitVec.ofNat 32 (i 0).val) (M0.view.read (Elt F) f0) (M1.view.read (Elt F) f1) (M2.view.read (Elt F) f2) (M3.view.read (Elt F) f3) (M4.view.read (Elt F) f4) (M5.view.read (Elt F) f5) (M6.view.read (Elt F) f6) 1))
          (Scalar.addf (M8.view.read (Elt F) f8 (at4 2)) (Img.blk (BitVec.ofNat 32 (i 0).val) (M0.view.read (Elt F) f0) (M1.view.read (Elt F) f1) (M2.view.read (Elt F) f2) (M3.view.read (Elt F) f3) (M4.view.read (Elt F) f4) (M5.view.read (Elt F) f5) (M6.view.read (Elt F) f6) 2)) (Scalar.addf (M8.view.read (Elt F) f8 (at4 3)) (Img.blk (BitVec.ofNat 32 (i 0).val) (M0.view.read (Elt F) f0) (M1.view.read (Elt F) f1) (M2.view.read (Elt F) f2) (M3.view.read (Elt F) f3) (M4.view.read (Elt F) f4) (M5.view.read (Elt F) f5) (M6.view.read (Elt F) f6) 3)) := by
  unfold runLast
  funext y
  refine (View.read_writes_cons_unit_of_mem (off' := ![0, 0]) M7.view M7.view.junk inb_S1x128_S1x128_0_0 _ [] y y rfl
    (by intro q; fin_cases q <;> simp)).trans ?_
  have e (a a' b b' d d' e e' : F .f32) (ha : a = a') (hb : b = b') (hd : d = d') (he : e = e') :
      k0_pay2 a b d e = k0_pay2 a' b' d' e' := by rw [ha, hb, hd, he]
  exact congrFun (e (k0_pay144 (runLast.sl.v784 i c M0 M1 M4 M5 M6 f0 f1 f4 f5 f6) (runLast.sl.r_23 c M8 f8)) _
    (k0_pay145 (runLast.sl.v858 i c M0 M2 M4 M6 f0 f2 f4 f6) (runLast.sl.r_24 c M8 f8)) _
    (runLast.sl.r_27 i c M0 M4 M6 M8 f0 f4 f6 f8) _ (k0_pay1 (runLast.sl.r_26 i c M0 M3 M4 M6 f0 f3 f4 f6) (runLast.sl.r_28 c M8 f8)) _
    (congrArg₂ Scalar.addf (rd4 c M8 f8 0 _ _) (lastCls i c M0 M1 M4 M5 M6 f0 f1 f4 f5 f6)) (congrArg₂ Scalar.addf (rd4 c M8 f8 1 _ _) (lastIou i c M0 M2 M4 M6 f0 f2 f4 f6))
    ((lastW i c M0 M4 M6 M8 f0 f4 f6 f8).trans (congrArg (Scalar.addf · _) (rd4 c M8 f8 2 _ _))) (congrArg₂ Scalar.addf (rd4 c M8 f8 3 _ _) (lastCtr i c M0 M3 M4 M6 f0 f3 f4 f6))) y

end Cert.Proof.KernelIdeal
-- ==== Proof.KernelIdealValue.lean ====
module

public import proofs.«01_k».proof.Proof.KernelIdealFrame
public import proofs.«01_k».proof.Proof.Words
public import Idealize.ShloMosaic.Lib.Pipeline.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A whole memref owned at `X` is its buffer held at contents that read `X`. -/
theorem owns_eq_pt (c : Dev nD) {sp : Space} {S : Shape} {e : EltTy} {M : Memref sig .tc sp S e} (h : M.IsWhole) (X : Vec F S e) :
    (owns (c : Thread nD τ) M fullShare X : sProp 𝕄) = iprop(∃ f : Bf (F := F) c M, ⌜M.view.read (Elt F) f = X⌝ ∗ pt c M f) := by
  obtain ⟨b, hsp, hsh, he, h⟩ := h
  subst hsp hsh he
  cases h
  exact owns_whole_eq (c : Thread nD τ) b fullShare X

/-- One step of the body: the four sums grow by the block's, and the last step writes the result. -/
theorem kernelVal (i : grid0.Coords) (hnb : ¬ (cond1 i = 1#1 ∧ k0_cond2 i = 1#1)) (c : Dev nD)
    (M0 : Memref sig .tc .vmem S2x2048 .f32) (h0 : M0.IsWhole) (M1 : Memref sig .tc .vmem S4x2048x80 .f32) (h1 : M1.IsWhole)
    (M2 : Memref sig .tc .vmem S4x4x2048 .f32) (h2 : M2.IsWhole) (M3 : Memref sig .tc .vmem S4x2048 .f32) (h3 : M3.IsWhole)
    (M4 : Memref sig .tc .vmem S4x50x4 .f32) (h4 : M4.IsWhole) (M5 : Memref sig .tc .vmem S4x50x1 .i32) (h5 : M5.IsWhole)
    (M6 : Memref sig .tc .vmem S4x50x1 .f32) (h6 : M6.IsWhole) (M7 : Memref sig .tc .vmem S1x128 .f32) (h7 : M7.IsWhole)
    (M8 : Memref sig .tc .smem S4 .f32) (h8 : M8.IsWhole)
    (X0 : Vec F S2x2048 .f32) (X1 : Vec F S4x2048x80 .f32) (X2 : Vec F S4x4x2048 .f32) (X3 : Vec F S4x2048 .f32)
    (X4 : Vec F S4x50x4 .f32) (X5 : Vec F S4x50x1 .i32) (X6 : Vec F S4x50x1 .f32) (X7 : Vec F S1x128 .f32)
    (f8 : Bf (F := F) c M8) (p : Fin 4 → F .f32) (hp : ¬ cond1 i = 1#1 → ∀ j, M8.view.read (Elt F) f8 (at4 j) = p j)
    (hp0 : cond1 i = 1#1 → ∀ j, p j = Scalar.ofBits .f32 0x00000000#32) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ pt c M8 f8
      ∗ (∀ g8 : Bf (F := F) c M8,
          iprop(⌜∀ j, M8.view.read (Elt F) g8 (at4 j) = Scalar.addf (p j) (Img.blk (BitVec.ofNat 32 (i 0).val) X0 X1 X2 X3 X4 X5 X6 j)⌝
            ∗ owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6
            ∗ owns (c : Thread nD τ) M7 fullShare (if k0_cond2 i = 1#1 then
                k0_pay2 (Scalar.addf (p 0) (Img.blk (BitVec.ofNat 32 (i 0).val) X0 X1 X2 X3 X4 X5 X6 0)) (Scalar.addf (p 1) (Img.blk (BitVec.ofNat 32 (i 0).val) X0 X1 X2 X3 X4 X5 X6 1))
                  (Scalar.addf (p 2) (Img.blk (BitVec.ofNat 32 (i 0).val) X0 X1 X2 X3 X4 X5 X6 2)) (Scalar.addf (p 3) (Img.blk (BitVec.ofNat 32 (i 0).val) X0 X1 X2 X3 X4 X5 X6 3))
                else X7)
            ∗ pt c M8 g8) -∗ Q ⟨⟩))
    ⊢ wp frame (wpE (defs₀ (F := F)) Variants.none c none) Set.univ
        (cc0__fcos_kernel i M0 h0 M1 h1 M2 h2 M3 h3 M4 h4 M5 h5 M6 h6 M7 h7 M8 h8) Q := by
  rw [owns_eq_pt c h0, owns_eq_pt c h1, owns_eq_pt c h2, owns_eq_pt c h3, owns_eq_pt c h4, owns_eq_pt c h5, owns_eq_pt c h6]
  simp only [owns_eq_pt c h7]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, H8, Hk⟩
  subst e0 e1 e2 e3 e4 e5 e6 e7
  by_cases hc1 : cond1 i = 1#1
  · have hc2 : ¬ k0_cond2 i = 1#1 := fun h => hnb ⟨hc1, h⟩
    let R := runFirst i hc1 hc2 c M0 h0 M1 h1 M2 h2 M3 h3 M4 h4 M5 h5 M6 h6 M7 h7 M8 h8 f0 f1 f2 f3 f4 f5 f6 f7 f8
    iapply (R.2 Set.univ Q)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    iapply Hk
    isplitr
    · ipureintro; intro j
      exact (accFirst i hc1 hc2 c M0 h0 M1 h1 M2 h2 M3 h3 M4 h4 M5 h5 M6 h6 M7 h7 M8 h8 f0 f1 f2 f3 f4 f5 f6 f7 f8 j).trans (congrArg (Scalar.addf · _) (hp0 hc1 j).symm)
    isplitl [H0]
    · iexists f0; isplitr
      · ipureintro; rfl
      iexact H0
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    isplitl [H7]
    · iexists f7; isplitr
      · ipureintro; rw [if_neg hc2]
      iexact H7
    iexact H8
  by_cases hc2 : k0_cond2 i = 1#1
  · let R := runLast i hc1 hc2 c M0 h0 M1 h1 M2 h2 M3 h3 M4 h4 M5 h5 M6 h6 M7 h7 M8 h8 f0 f1 f2 f3 f4 f5 f6 f7 f8
    iapply (R.2 Set.univ Q)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    iapply Hk
    isplitr
    · ipureintro; intro j
      exact (accLast i hc1 hc2 c M0 h0 M1 h1 M2 h2 M3 h3 M4 h4 M5 h5 M6 h6 M7 h7 M8 h8 f0 f1 f2 f3 f4 f5 f6 f7 f8 j).trans (congrArg (Scalar.addf · _) (hp hc1 j))
    isplitl [H0]
    · iexists f0; isplitr
      · ipureintro; rfl
      iexact H0
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    isplitl [H7]
    · iexists R.1.1; isplitr
      · ipureintro
        rw [if_pos hc2]
        refine (outLast i hc1 hc2 c M0 h0 M1 h1 M2 h2 M3 h3 M4 h4 M5 h5 M6 h6 M7 h7 M8 h8 f0 f1 f2 f3 f4 f5 f6 f7 f8).trans ?_
        rw [hp hc1, hp hc1, hp hc1, hp hc1]
      iexact H7
    iexact H8
  · let R := runMid i hc1 hc2 c M0 h0 M1 h1 M2 h2 M3 h3 M4 h4 M5 h5 M6 h6 M7 h7 M8 h8 f0 f1 f2 f3 f4 f5 f6 f7 f8
    iapply (R.2 Set.univ Q)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    iapply Hk
    isplitr
    · ipureintro; intro j
      exact (accMid i hc1 hc2 c M0 h0 M1 h1 M2 h2 M3 h3 M4 h4 M5 h5 M6 h6 M7 h7 M8 h8 f0 f1 f2 f3 f4 f5 f6 f7 f8 j).trans (congrArg (Scalar.addf · _) (hp hc1 j))
    isplitl [H0]
    · iexists f0; isplitr
      · ipureintro; rfl
      iexact H0
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    isplitl [H7]
    · iexists f7; isplitr
      · ipureintro; rw [if_neg hc2]
      iexact H7
    iexact H8

/-! The run, its four sums named. -/

section Run

variable (B : Dev nD → ℕ → Fin 4 → F .f32)

/-- The four sums before the block `n`. -/
def part (c : Dev nD) : ℕ → Fin 4 → F .f32
  | 0 => fun _ => Scalar.ofBits .f32 0x00000000#32
  | n + 1 => fun j => Scalar.addf (part c n j) (B c n j)

/-- The result block. -/
def result (c : Dev nD) : Vec F S1x128 .f32 := k0_pay2 (part B c 9 0) (part B c 9 1) (part B c 9 2) (part B c 9 3)

/-- The accumulator before a step: from the first step on, the sums of the blocks so far. -/
def vPhi (c : Dev nD) (n : ℕ) : sProp 𝕄 :=
  iprop((∃ f : Bf (F := F) c scM, ⌜0 < n → ∀ j, scM.view.read (Elt F) f (at4 j) = part B c n j⌝ ∗ pt c scM f) ∗ (∃ r, prngReg c r))

/-- The proof data of the run. -/
def vdats (_ : Fin 1) (c : Dev nD) : Dat τ (Elt F) Unit ℕ (UR sig nD τ) ℕ cfg0 c where
  A w := V m c (Pipeline.arrRef spec0 w)
  after w t := match w with
    | 0 => win0_0.fill (grid0.coords t) (fun _ => Scalar.ofBits .f32 0x00000000#32) (iblk m c 0 t)
    | 1 => win0_1.fill (grid0.coords t) (fun _ => Scalar.ofBits .f32 0x00000000#32) (iblk m c 1 t)
    | 2 => win0_2.fill (grid0.coords t) (fun _ => Scalar.ofBits .f32 0x00000000#32) (iblk m c 2 t)
    | 3 => win0_3.fill (grid0.coords t) (fun _ => Scalar.ofBits .f32 0x00000000#32) (iblk m c 3 t)
    | 4 => iblk m c 4 t
    | 5 => iblk m c 5 t
    | 6 => iblk m c 6 t
    | 7 => result B c
  Φ t := vPhi B c t.val
  q _ := fullShare
  owed _ := 0

theorem vA_eq (c : Dev nD) (w : Fin cfg0.W) : (vdats m B 0 c).A w = V m c (Pipeline.arrRef spec0 w) := by dsimp only [vdats]

theorem before_0 (c : Dev nD) (t : Fin cfg0.N) (d) : (vdats m B 0 c).before 0 t d = win0_0.fill (grid0.coords t) d (iblk m c 0 t) := by
  unfold Dat.before; rw [if_pos (fetch0_0 t)]; rfl

theorem before_1 (c : Dev nD) (t : Fin cfg0.N) (d) : (vdats m B 0 c).before 1 t d = win0_1.fill (grid0.coords t) d (iblk m c 1 t) := by
  unfold Dat.before; rw [if_pos (fetch0_1 t)]; rfl

theorem before_2 (c : Dev nD) (t : Fin cfg0.N) (d) : (vdats m B 0 c).before 2 t d = win0_2.fill (grid0.coords t) d (iblk m c 2 t) := by
  unfold Dat.before; rw [if_pos (fetch0_2 t)]; rfl

theorem before_3 (c : Dev nD) (t : Fin cfg0.N) (d) : (vdats m B 0 c).before 3 t d = win0_3.fill (grid0.coords t) d (iblk m c 3 t) := by
  unfold Dat.before; rw [if_pos (fetch0_3 t)]; rfl

theorem before_4 (c : Dev nD) (t : Fin cfg0.N) (d) : (vdats m B 0 c).before 4 t d = iblk m c 4 t :=
  before0_4_of m (vdats m B 0 c) (vA_eq m B c 4) (fun _ => rfl) t d

theorem before_5 (c : Dev nD) (t : Fin cfg0.N) (d) : (vdats m B 0 c).before 5 t d = iblk m c 5 t :=
  before0_5_of m (vdats m B 0 c) (vA_eq m B c 5) (fun _ => rfl) t d

theorem before_6 (c : Dev nD) (t : Fin cfg0.N) (d) : (vdats m B 0 c).before 6 t d = iblk m c 6 t :=
  before0_6_of m (vdats m B 0 c) (vA_eq m B c 6) (fun _ => rfl) t d

theorem cond1_iff (t : Fin grid0.N) : cond1 (grid0.coords t) = 1#1 ↔ t.val = 0 := by
  rcases fin_N0 t with rfl | rfl | rfl | rfl | rfl | rfl | rfl | rfl | rfl <;> decide

theorem cond2_iff (t : Fin grid0.N) : k0_cond2 (grid0.coords t) = 1#1 ↔ t.val = 8 := by
  rcases fin_N0 t with rfl | rfl | rfl | rfl | rfl | rfl | rfl | rfl | rfl <;> decide

/-- That the sums of a block are `B`'s, whatever lies past the arrays' ends. -/
def BlockSums : Prop := ∀ (c : Dev nD) (t : Fin cfg0.N) (d0 : Vec F S2x2048 .f32) (d1 : Vec F S4x2048x80 .f32) (d2 : Vec F S4x4x2048 .f32) (d3 : Vec F S4x2048 .f32),
  Img.blk (BitVec.ofNat 32 (grid0.coords t 0).val) (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t)) (iblk m c 4 t) (iblk m c 5 t) (iblk m c 6 t)
    = B c t.val

theorem vbody (hB : BlockSums m B) (c : Dev nD) : BodyObligationLoose (vdats m B 0 c) (defs₀ (F := F)) Variants.none () Set.univ := fun t => by
  rw [bigSep_W0, bigSep_W0, defs₀_row]
  simp only
  rw [show (vdats m B 0 c).owesAt () t.succ = (vdats m B 0 c).owesAt () t.castSucc from rfl,
    show (vdats m B 0 c).Φ t.succ = vPhi B c (t.val + 1) from rfl,
    show (vdats m B 0 c).Φ t.castSucc = vPhi B c t.val from rfl]
  unfold vPhi bodyAt0
  iintro ⟨⟨⟨%f8, %e8, H8⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m B c t d0, before_1 m B c t d1, before_2 m B c t d2, before_3 m B c t d3, before_4 m B c t d4, before_5 m B c t d5,
    before_6 m B c t d6]
  have e := hB c t d0 d1 d2 d3
  iapply (kernelVal (F := F) (grid0.coords t) (not_both t) c _ _ _ _ _ _ _ _ _ _ _ _ _ _ _ _ scM (Memref.isWhole_whole _)
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t)) (iblk m c 4 t) (iblk m c 5 t) (iblk m c 6 t)
    ((vdats m B 0 c).before 7 t d7) f8 (part B c t.val)
    (fun h j => e8 (Nat.pos_of_ne_zero fun h0 => h ((cond1_iff t).mpr h0)) j)
    (fun h j => by rw [(cond1_iff t).mp h]; rfl) _)
  rw [e]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro %g8 ⟨%e9, H0, H1, H2, H3, H4, H5, H6, H7, H8⟩
  isplitl [H8 Hg]
  · isplitl [H8]
    · iexists g8; isplitr
      · ipureintro; exact fun _ j => e9 j
      iexact H8
    iexact Hg
  isplitl [HO]; · iexact HO
  isplitl [H0]
  · iexists d0
    change _ ⊢ owns (c : Thread nD τ) (win0_0.stage (cfg0.slots t 0)) fullShare (win0_0.fill (grid0.coords t) d0 (win0_0.cut (grid0.coords t) (win0_0.fill (grid0.coords t) (fun _ => Scalar.ofBits .f32 0x00000000#32) (iblk m c 0 t))))
    rw [win0_0.cut_fill]; try iexact H0
  isplitl [H1]
  · iexists d1
    change _ ⊢ owns (c : Thread nD τ) (win0_1.stage (cfg0.slots t 1)) fullShare (win0_1.fill (grid0.coords t) d1 (win0_1.cut (grid0.coords t) (win0_1.fill (grid0.coords t) (fun _ => Scalar.ofBits .f32 0x00000000#32) (iblk m c 1 t))))
    rw [win0_1.cut_fill]; try iexact H1
  isplitl [H2]
  · iexists d2
    change _ ⊢ owns (c : Thread nD τ) (win0_2.stage (cfg0.slots t 2)) fullShare (win0_2.fill (grid0.coords t) d2 (win0_2.cut (grid0.coords t) (win0_2.fill (grid0.coords t) (fun _ => Scalar.ofBits .f32 0x00000000#32) (iblk m c 2 t))))
    rw [win0_2.cut_fill]; try iexact H2
  isplitl [H3]
  · iexists d3
    change _ ⊢ owns (c : Thread nD τ) (win0_3.stage (cfg0.slots t 3)) fullShare (win0_3.fill (grid0.coords t) d3 (win0_3.cut (grid0.coords t) (win0_3.fill (grid0.coords t) (fun _ => Scalar.ofBits .f32 0x00000000#32) (iblk m c 3 t))))
    rw [win0_3.cut_fill]; try iexact H3
  isplitl [H4]; · iexact H4
  isplitl [H5]; · iexact H5
  isplitl [H6]; · iexact H6
  have hid : idle0 7 (grid0.coords t) = !(k0_cond2 (grid0.coords t) == 1#1) := rfl
  by_cases hl : t.val = 8
  · have h2 := (cond2_iff t).mpr hl
    have hi : idle0 7 (grid0.coords t) = false := by rw [hid, h2]; rfl
    simp only [hi]
    rw [if_pos h2]
    rw [show (vdats m B 0 c).after 7 t = result B c from rfl]
    have er : result B c = k0_pay2 (Scalar.addf (part B c t.val 0) (B c t.val 0)) (Scalar.addf (part B c t.val 1) (B c t.val 1))
        (Scalar.addf (part B c t.val 2) (B c t.val 2)) (Scalar.addf (part B c t.val 3) (B c t.val 3)) := by rw [hl]; rfl
    rw [er]; try iexact H7
  · have h2 : ¬ k0_cond2 (grid0.coords t) = 1#1 := fun h => hl ((cond2_iff t).mp h)
    have hi : idle0 7 (grid0.coords t) = true := by rw [hid]; simp [h2]
    have hf : (cfg0.win 7).flush t = false := by
      rw [Bool.eq_false_iff]; intro h; have h1 := (flush0_7 t).mp h
      have : t.val < 9 := t.2
      omega
    simp only [hi, hf]
    rw [if_neg h2]
    iexists d7
    iexact H7

set_option backward.isDefEq.respectTransparency.types false in
/-- The run: every array ends as the blocks written leave it. -/
theorem vrun (hB : BlockSums m B) :
    θ_run defs (onTc (τ := τ) (main (F := F))) (s₀ m ρ)
      (Pipeline.FramePost cfgs (vdats m B) 0 (Pipeline.afterTail₀ cfgs (vdats m B) 0 (V0 m) [hostOps1])) :=
  Pipeline.θ_run_frame_around_track cfgs (vdats m B) (0 : Fin 1) launch0 defs₀ Variants.none m ρ main
    (hbody := vbody m B hB) (hshare := fun c => (vdats m B 0 c).share_full fun _ => rfl)
    (howed := fun _ _ => rfl) (V₀ := V0 m) (opss := [hostOps1]) (hsub := sfx_sub) (hfresh := sfx_fresh) (hkeep := sfx_keeps)
    (hmain := hmain m Variants.none) (hA := vA_eq m B)
    (hin := fun c => by
      rw [show (vdats m B 0 c).Φ 0 = vPhi B c 0 from rfl, PhiA0_eq]; unfold vPhi
      iintro ⟨⟨%f, H⟩, Hg⟩
      isplitl [H]
      · iexists f; isplitr
        · ipureintro; exact fun h => absurd h (Nat.lt_irrefl 0)
        iexact H
      iexact Hg)
    (hout := fun c => by
      rw [show (vdats m B 0 c).Φ (Fin.last _) = vPhi B c 9 from rfl, PhiA0_eq]; unfold vPhi
      iintro ⟨⟨%f, -, H⟩, Hg⟩
      isplitl [H]
      · iexists f; iexact H
      iexact Hg)

end Run

end Cert.Proof.KernelIdeal

end
-- ==== Proof.KernelIdealPost.lean ====
module

public import proofs.«01_k».proof.Proof.KernelIdealValue
public import Idealize.ShloMosaic.Lib.StableHlo.RunRead
public import Idealize.ShloMosaic.Lib.ValueIdx
public import Idealize.ShloMosaic.Lib.Pipeline.ValueKit
public import Idealize.ShloMosaic.Lib.Pointwise

@[expose] public section

set_option maxRecDepth 16384

noncomputable section

/-! What the kernel's run leaves: its three results, read off the row the last step writes. -/

namespace Cert.Proof.KernelIdeal

open Cert.KernelIdeal Cert.KernelIdeal.Gen
open Idealize.ShloMosaic Idealize.ShloMosaic.TcCoe Idealize.ShloMosaic.Tactic Idealize.ShloMosaic.StableHlo
open Idealize.ShloMosaic.Rounds Idealize.SL.Sem

variable {F : FTy → Type} [FloatOps F] [Named F] [∀ e, Nonempty (Elt F e)]

variable (m : (ℓ : Loc nD τ sig) → Buf (Elt F) ℓ) (ρ : Dev nD → PrngReg) (B : Dev nD → ℕ → Fin 4 → F .f32)

/-- The row of results ends as the last step writes it. -/
theorem final_out (c : Dev nD) : (vdats m B 0 c).arrAt 7 cfg0.N = result B c := by
  have hz' : (fun a => win0_7.index t0_8 a * main_call0_v4.ty.shape.size a) = fun _ => 0 := funext fun a => by fin_cases a <;> decide
  refine (vdats m B 0 c).arrAt_eq_of_cover 7 (result B c) (fun t hf => ?_) (fun i => ?_)
  · have h := (flush0_7 t).mp hf
    have ht : t = t0_8 := by
      apply Fin.ext; have : t.val < 9 := t.2
      show t.val = 8
      omega
    subst ht
    show (cfg0.win 7).cut (grid0.coords t0_8) ((vdats m B 0 c).after 7 t0_8) = _
    exact (Memref.read_access_unit_zero (Elt F) main_call0_v4 hz' (fun a => by rw [congrFun hz' a]; simp) (result B c)).symm
  · refine ⟨t0_8, (flush0_7 t0_8).mpr rfl, ?_⟩
    show i ∈ ((View.whole main_call0_v4).slice (win0_7.rect t0_8)).set
    rw [View.set_slice_whole, Rect.mem_set_unit]
    intro a
    have h0 := congrFun hz' a
    show win0_7.index t0_8 a * main_call0_v4.ty.shape.size a ≤ (i a).val ∧ (i a).val < win0_7.index t0_8 a * main_call0_v4.ty.shape.size a + main_call0_v4.ty.shape.size a
    rw [show win0_7.index t0_8 a * main_call0_v4.ty.shape.size a = 0 from h0]
    exact ⟨Nat.zero_le _, by simpa using (i a).2⟩

/-- Where an array of the region is left. -/
theorem tail_out (c : Dev nD) :
    Pipeline.withArrays spec0 c (V0 m c) (fun w => (vdats m B 0 c).arrAt w cfg0.N) (Proc.devRef .tc main_call0_v4) = result B c :=
  (Pipeline.withArrays_arr spec0 (by decide) c (V0 m c) (fun w => (vdats m B 0 c).arrAt w cfg0.N) 7).trans (final_out m B c)

/-- A result is its entry of the row. -/
theorem tail_0 (c : Dev nD) : Pipeline.afterTail₀ cfgs (vdats m B) 0 (V0 m) [hostOps1] c main_v0_0 = fun _ => result B c (ix2 0 0) := by
  unfold Pipeline.afterTail₀
  show StableHlo.after [_, _, _, _, _, _] (Pipeline.withArrays spec0 c (V0 m c) (fun w => (vdats m B 0 c).arrAt w cfg0.N)) (Proc.devRef .tc main_v0_0) = _
  generalize hW : Pipeline.withArrays spec0 c (V0 m c) (fun w => (vdats m B 0 c).arrAt w cfg0.N) = W
  have hr : W (Proc.devRef .tc main_call0_v4) = result B c := by rw [← hW]; exact tail_out m B c
  after_reads_simp
  rw [hr]
  funext i
  show shapeCast S_ (extractStridedSlice S1x1 ![0, 0] (result B c) slices_S1x128_S1x1_0_0) shapeCasts_S1x1_S_ i = _
  pointwise
  try rfl

/-- A result is its entry of the row. -/
theorem tail_1 (c : Dev nD) : Pipeline.afterTail₀ cfgs (vdats m B) 0 (V0 m) [hostOps1] c main_v0_1 = fun _ => result B c (ix2 0 1) := by
  unfold Pipeline.afterTail₀
  show StableHlo.after [_, _, _, _, _, _] (Pipeline.withArrays spec0 c (V0 m c) (fun w => (vdats m B 0 c).arrAt w cfg0.N)) (Proc.devRef .tc main_v0_1) = _
  generalize hW : Pipeline.withArrays spec0 c (V0 m c) (fun w => (vdats m B 0 c).arrAt w cfg0.N) = W
  have hr : W (Proc.devRef .tc main_call0_v4) = result B c := by rw [← hW]; exact tail_out m B c
  after_reads_simp
  rw [hr]
  funext i
  show shapeCast S_ (extractStridedSlice S1x1 ![0, 1] (result B c) slices_S1x128_S1x1_0_1) shapeCasts_S1x1_S_ i = _
  pointwise
  try rfl

/-- A result is its entry of the row. -/
theorem tail_2 (c : Dev nD) : Pipeline.afterTail₀ cfgs (vdats m B) 0 (V0 m) [hostOps1] c main_v0_2 = fun _ => result B c (ix2 0 2) := by
  unfold Pipeline.afterTail₀
  show StableHlo.after [_, _, _, _, _, _] (Pipeline.withArrays spec0 c (V0 m c) (fun w => (vdats m B 0 c).arrAt w cfg0.N)) (Proc.devRef .tc main_v0_2) = _
  generalize hW : Pipeline.withArrays spec0 c (V0 m c) (fun w => (vdats m B 0 c).arrAt w cfg0.N) = W
  have hr : W (Proc.devRef .tc main_call0_v4) = result B c := by rw [← hW]; exact tail_out m B c
  after_reads_simp
  rw [hr]
  funext i
  show shapeCast S_ (extractStridedSlice S1x1 ![0, 2] (result B c) slices_S1x128_S1x1_0_2) shapeCasts_S1x1_S_ i = _
  pointwise
  try rfl

/-- The run ends with each result its entry of the row, and the arguments as they were. -/
theorem vpost (hB : BlockSums m B) :
    θ_run defs (onTc (τ := τ) (main (F := F))) ⟨m, fun _ => 0, ρ⟩ (fun r => ∀ c : Dev nD,
      (r.2.mem ((c.tc : Thread nD τ).loc main_v0_0) = (fun _ => result B c (ix2 0 0))
      ∧ r.2.mem ((c.tc : Thread nD τ).loc main_v0_1) = (fun _ => result B c (ix2 0 1))
      ∧ r.2.mem ((c.tc : Thread nD τ).loc main_v0_2) = (fun _ => result B c (ix2 0 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hA := vA_eq m B
  refine (θ_run defs _ _).mono (fun _ h c => ⟨⟨?_, ?_, ?_⟩, ?_, ?_, ?_, ?_, ?_, ?_, ?_⟩) (vrun m ρ B hB)
  · exact ((h c).2 main_v0_0 (Pipeline.mem_restRefs_of main_v0_0 (by decide) (by decide))).trans (tail_0 m B c)
  · exact ((h c).2 main_v0_1 (Pipeline.mem_restRefs_of main_v0_1 (by decide) (by decide))).trans (tail_1 m B c)
  · exact ((h c).2 main_v0_2 (Pipeline.mem_restRefs_of main_v0_2 (by decide) (by decide))).trans (tail_2 m B c)
  · exact ((h c).2 main_arg0 (Pipeline.mem_restRefs_of main_arg0 (by decide) (by decide))).trans (W_main_arg0 m _ c)
  · exact ((h c).1 1).trans (((vdats m B 0 c).arrAt_in 1 rfl _).trans ((hA c 1).trans (V_main_arg1 m c)))
  · exact ((h c).2 main_arg2 (Pipeline.mem_restRefs_of main_arg2 (by decide) (by decide))).trans (W_main_arg2 m _ c)
  · exact ((h c).1 3).trans (((vdats m B 0 c).arrAt_in 3 rfl _).trans ((hA c 3).trans (V_main_arg3 m c)))
  · exact ((h c).1 4).trans (((vdats m B 0 c).arrAt_in 4 rfl _).trans ((hA c 4).trans (V_main_arg4 m c)))
  · exact ((h c).2 main_arg5 (Pipeline.mem_restRefs_of main_arg5 (by decide) (by decide))).trans (W_main_arg5 m _ c)
  · exact ((h c).2 main_arg6 (Pipeline.mem_restRefs_of main_arg6 (by decide) (by decide))).trans (W_main_arg6 m _ c)

end Cert.Proof.KernelIdeal

end
-- ==== Proof.ImageLoad.lean ====
module

public import proofs.«01_k».proof.Proof.Image
public import Idealize.ShloMosaic.Lib.Pointwise

@[expose] public section

set_option maxRecDepth 16384

noncomputable section

/-! What is loaded of an image. -/

namespace Cert.Proof.Img

open Cert.KernelIdeal Cert.KernelIdeal.Gen
open Idealize.ShloMosaic Idealize.ShloMosaic.TcCoe Idealize.ShloMosaic.Tactic

theorem ldX_at (X : Vec Ideal S2x2048 .f32) (p : Fin 2048) : ldX X (ix2 0 p) = X (ix2 0 p) := by pointwise [ldX]
theorem ldY_at (X : Vec Ideal S2x2048 .f32) (p : Fin 2048) : ldY X (ix2 0 p) = X (ix2 1 p) := by pointwise [ldY]
theorem ldC_at (X : Vec Ideal S4x2048x80 .f32) (p : Fin 2048) (c : Fin 80) : ∀ j, ldC j X (ix2 p c) = X (ix3 j p c)
  | 0 => by pointwise [ldC]
  | 1 => by pointwise [ldC]
  | 2 => by pointwise [ldC]
  | 3 => by pointwise [ldC]
theorem ldB_at (X : Vec Ideal S4x4x2048 .f32) (q : Fin 4) (p : Fin 2048) : ∀ j, ldB j X (ix2 q p) = X (ix3 j q p)
  | 0 => by pointwise [ldB]
  | 1 => by pointwise [ldB]
  | 2 => by pointwise [ldB]
  | 3 => by pointwise [ldB]
theorem ldT_at (X : Vec Ideal S4x2048 .f32) (p : Fin 2048) : ∀ j, ldT j X (ix2 0 p) = X (ix2 j p)
  | 0 => by pointwise [ldT]
  | 1 => by pointwise [ldT]
  | 2 => by pointwise [ldT]
  | 3 => by pointwise [ldT]
theorem ldG_at (X : Vec Ideal S4x50x4 .f32) (g : Fin 50) (q : Fin 4) : ∀ j, ldG j X (ix2 g q) = X (ix3 j g q)
  | 0 => by pointwise [ldG]
  | 1 => by pointwise [ldG]
  | 2 => by pointwise [ldG]
  | 3 => by pointwise [ldG]
theorem ldL_at (X : Vec Ideal S4x50x1 .i32) (g : Fin 50) : ∀ j, ldL (F := Ideal) j X (ix2 g 0) = X (ix3 j g 0)
  | 0 => by pointwise [ldL]
  | 1 => by pointwise [ldL]
  | 2 => by pointwise [ldL]
  | 3 => by pointwise [ldL]
theorem ldA_at (X : Vec Ideal S4x50x1 .f32) (g : Fin 50) : ∀ j, ldA j X (ix2 g 0) = X (ix3 j g 0)
  | 0 => by pointwise [ldA]
  | 1 => by pointwise [ldA]
  | 2 => by pointwise [ldA]
  | 3 => by pointwise [ldA]

/-- The number of a point as a word, against a bound. -/
theorem word_lt (n p N : ℕ) (hn : n < 9) (hp : p < 2048) (hN : N < 20000) :
    IntOp.cmpi .slt (IntOp.addi (Scalar.muli (BitVec.ofNat 32 n) 2048#32) (BitVec.ofNat 32 p)) (BitVec.ofNat 32 N)
      = BitVec.ofBool (decide (n * 2048 + p < N)) := by
  have e : IntOp.addi (Scalar.muli (BitVec.ofNat 32 n) 2048#32) (BitVec.ofNat 32 p) = BitVec.ofNat 32 (n * 2048 + p) := by
    show BitVec.ofNat 32 n * 2048#32 + BitVec.ofNat 32 p = _
    rw [BitVec.ofNat_add, BitVec.ofNat_mul]
  rw [e]
  show BitVec.ofBool (BitVec.slt _ _) = _
  rw [BitVec.slt]
  congr 1
  have t : ∀ m : ℕ, m < 100000 → (BitVec.ofNat 32 m).toInt = m := fun m hm => by
    rw [BitVec.toInt_eq_toNat_cond, BitVec.toNat_ofNat]
    have : m % 2 ^ 32 = m := by omega
    rw [this]; rw [if_pos (by omega)]
  rw [t _ (by omega), t _ (by omega)]
  simp only [decide_eq_decide]
  omega

end Cert.Proof.Img

end
-- ==== Proof.Quant.lean ====
module

public import Idealize.ShloMosaic.Lib.ValueIdx
public import Idealize.ShloMosaic.Lib.Pointwise

@[expose] public section

noncomputable section

/-! The quantities of one point of one image, over the extended reals. -/

namespace Cert.Proof.Q

open Idealize.ShloMosaic
open scoped Classical

/-- The area that stands for no box. -/
def INF : EReal := Ideal.ofBits .f32 0x49742400#32
/-- The small number that a quotient's divisor is kept above. -/
def eps : EReal := Ideal.ofBits .f32 0x358637BD#32

/-- The lower distance bound of a point. -/
def loQ (P : ℕ) : EReal :=
  if P < 12800 then Ideal.ofBits .f32 0xBF800000#32 else if P < 16000 then Ideal.ofBits .f32 0x42800000#32
  else if P < 16800 then Ideal.ofBits .f32 0x43000000#32 else if P < 17008 then Ideal.ofBits .f32 0x43800000#32
  else Ideal.ofBits .f32 0x44000000#32

/-- The upper distance bound of a point. -/
def hiQ (P : ℕ) : EReal :=
  if P < 12800 then Ideal.ofBits .f32 0x42800000#32 else if P < 16000 then Ideal.ofBits .f32 0x43000000#32
  else if P < 16800 then Ideal.ofBits .f32 0x43800000#32 else if P < 17008 then Ideal.ofBits .f32 0x44000000#32
  else INF

/-- The area of a box at a point, or the large number where the box does not apply. -/
def areaS (x y lo hi g0 g1 g2 g3 a : EReal) : EReal :=
  if 0 < min (min (x - g0) (y - g1)) (min (g2 - x) (g3 - y)) ∧ lo ≤ min (min (x - g0) (y - g1)) (min (g2 - x) (g3 - y))
      ∧ max (max (x - g0) (y - g1)) (max (g2 - x) (g3 - y)) ≤ hi then a else INF

/-- The least of fifty numbers. -/
def mnF (a : Fin 50 → EReal) : EReal := (Finset.univ : Finset (Fin 50)).fold min (Ideal.ofBits .f32 0x7F800000#32) a

theorem ofBits_top : Ideal.ofBits .f32 0x7F800000#32 = ⊤ := by simp [Ideal.ofBits, Ideal.ieee]

theorem exists_attains (a : Fin 50 → EReal) : ∃ k, a k = mnF a := by
  by_contra h
  push Not at h
  have hle : ∀ k, mnF a ≤ a k := fun k => (Finset.le_fold_min (mnF a)).mp le_rfl |>.2 k (Finset.mem_univ k)
  have htop : mnF a = ⊤ := by
    have h1 := (Finset.fold_min_le (s := (Finset.univ : Finset (Fin 50))) (f := a) (b := Ideal.ofBits .f32 0x7F800000#32) (mnF a)).mp le_rfl
    rcases h1 with h1 | ⟨k, -, hk⟩
    · rw [ofBits_top] at h1; exact top_le_iff.mp h1
    · exact absurd (le_antisymm hk (hle k)) (h k)
  exact h 0 (le_antisymm (by rw [htop]; exact le_top) (hle 0))

theorem exists_first (a : Fin 50 → EReal) : ∃ k, a k = mnF a ∧ ∀ k' < k, a k' ≠ mnF a := by
  obtain ⟨k, hk⟩ := exists_attains a
  have hne : (Finset.univ.filter fun k => a k = mnF a).Nonempty := ⟨k, by simp [hk]⟩
  refine ⟨(Finset.univ.filter fun k => a k = mnF a).min' hne, (Finset.mem_filter.mp (Finset.min'_mem _ hne)).2, fun k' hk' he => ?_⟩
  exact absurd (Finset.min'_le _ k' (by simp [he])) (not_le.mpr hk')

/-- The first of fifty numbers that is the least. -/
def first (a : Fin 50 → EReal) : Fin 50 := (exists_first a).choose

theorem toInt_minsi (x y : BitVec 32) : (IntOp.minsi x y).toInt = min x.toInt y.toInt := by
  unfold IntOp.minsi
  simp only [BitVec.sle, BitVec.slt]
  split <;> simp_all <;> omega

theorem toInt_small (n : ℕ) (h : n < 100) : (BitVec.ofNat 32 n).toInt = n := by
  rw [BitVec.toInt_eq_toNat_cond, BitVec.toNat_ofNat]
  have : n % 2 ^ 32 = n := by omega
  rw [this]; rw [if_pos (by omega)]

/-- The first least entry, as both programs find it. -/
theorem fold_first (a : Fin 50 → EReal) (N : ℕ) (hN : 49 ≤ N ∧ N < 100) :
    (Finset.univ : Finset (Fin 50)).fold IntOp.minsi (2147483647#32) (fun g => if a g = mnF a then BitVec.ofNat 32 g.val else BitVec.ofNat 32 N)
      = BitVec.ofNat 32 (first a).val := by
  obtain ⟨h1, h2⟩ := (exists_first a).choose_spec
  change a (first a) = mnF a at h1
  change ∀ k' < first a, a k' ≠ mnF a at h2
  apply BitVec.eq_of_toInt_eq
  rw [toInt_small _ (by omega)]
  have e := Finset.fold_hom (s := (Finset.univ : Finset (Fin 50))) (op := IntOp.minsi (w := 32)) (op' := (min : ℤ → ℤ → ℤ)) (m := BitVec.toInt)
    (b := 2147483647#32) (f := fun g => if a g = mnF a then BitVec.ofNat 32 g.val else BitVec.ofNat 32 N) (fun x y => toInt_minsi x y)
  rw [← e]
  apply le_antisymm
  · rw [Finset.fold_min_le]
    refine Or.inr ⟨first a, Finset.mem_univ _, ?_⟩
    rw [if_pos h1, toInt_small _ (by omega)]
  · rw [Finset.le_fold_min]
    refine ⟨?_, fun g _ => ?_⟩
    · have : (2147483647#32).toInt = 2147483647 := by decide
      rw [this]; have := (first a).2; omega
    · split
      · next h =>
        rw [toInt_small _ (by omega)]
        have : ¬ g < first a := fun hl => h2 g hl h
        rw [Fin.lt_def] at this
        omega
      · rw [toInt_small _ (by omega)]; have := (first a).2; omega

/-- The centre target from the four distances. -/
def ctrS (tl tt tr tb : EReal) : EReal :=
  Ideal.div (min tl tr) (max (max tl tr) eps) * Ideal.div (min tt tb) (max (max tt tb) eps)

/-- The overlap loss from the distances. -/
def iouS (tl tt tr tb pl pt pr pb : EReal) : EReal :=
  - Ideal.log (max (Ideal.div ((min pl tl + min pr tr) * (min pt tt + min pb tb) + 1)
    ((tl + tr) * (tt + tb) + (pl + pr) * (pt + pb) - (min pl tl + min pr tr) * (min pt tt + min pb tb) + 1)) eps)

/-- The logarithm of one plus the exponential of minus the absolute value. -/
def spS (x : EReal) : EReal := Ideal.log1p (Ideal.exp (- max x (-x)))

/-- The logistic loss of a score against a target. -/
def bceS (x z : EReal) : EReal := max x 0 - x * z + spS x

section Args

variable (A0 : (⟨2, ![17064, 2]⟩ : Shape).Idx → EReal) (A1 : (⟨3, ![4, 17064, 80]⟩ : Shape).Idx → EReal)
  (A2 : (⟨3, ![4, 17064, 4]⟩ : Shape).Idx → EReal) (A3 : (⟨2, ![4, 17064]⟩ : Shape).Idx → EReal)
  (A4 : (⟨3, ![4, 50, 4]⟩ : Shape).Idx → EReal) (A5 : (⟨2, ![4, 50]⟩ : Shape).Idx → BitVec 32)
  (A6 : (⟨2, ![4, 50]⟩ : Shape).Idx → EReal) (j : Fin 4) (P : Fin 17064)

/-- The areas at a point. -/
def areaQ (g : Fin 50) : EReal :=
  areaS (A0 (ix2 P 0)) (A0 (ix2 P 1)) (loQ P.val) (hiQ P.val) (A4 (ix3 j g 0)) (A4 (ix3 j g 1)) (A4 (ix3 j g 2)) (A4 (ix3 j g 3)) (A6 (ix2 j g))

/-- Whether a point has a box. -/
def posQ : Prop := mnF (areaQ A0 A4 A6 j P) < INF

/-- The box of a point. -/
def boxQ : Fin 50 := first (areaQ A0 A4 A6 j P)

/-- The distances of a point to the sides of its box. -/
def tlQ : EReal := if posQ A0 A4 A6 j P then A0 (ix2 P 0) - A4 (ix3 j (boxQ A0 A4 A6 j P) 0) else 1
@[inherit_doc tlQ] def ttQ : EReal := if posQ A0 A4 A6 j P then A0 (ix2 P 1) - A4 (ix3 j (boxQ A0 A4 A6 j P) 1) else 1
@[inherit_doc tlQ] def trQ : EReal := if posQ A0 A4 A6 j P then A4 (ix3 j (boxQ A0 A4 A6 j P) 2) - A0 (ix2 P 0) else 1
@[inherit_doc tlQ] def tbQ : EReal := if posQ A0 A4 A6 j P then A4 (ix3 j (boxQ A0 A4 A6 j P) 3) - A0 (ix2 P 1) else 1

/-- The centre target of a point. -/
def ctrQ : EReal := ctrS (tlQ A0 A4 A6 j P) (ttQ A0 A4 A6 j P) (trQ A0 A4 A6 j P) (tbQ A0 A4 A6 j P)

/-- A predicted distance of a point. -/
def prQ (q : Fin 4) : EReal := if posQ A0 A4 A6 j P then max (A2 (ix3 j P q)) 0 else 1

/-- The overlap loss of a point. -/
def iouQ : EReal := iouS (tlQ A0 A4 A6 j P) (ttQ A0 A4 A6 j P) (trQ A0 A4 A6 j P) (tbQ A0 A4 A6 j P)
  (prQ A0 A2 A4 A6 j P 0) (prQ A0 A2 A4 A6 j P 1) (prQ A0 A2 A4 A6 j P 2) (prQ A0 A2 A4 A6 j P 3)

/-- What a point with a box adds to the weighted overlap loss. -/
def iouT : EReal := if posQ A0 A4 A6 j P then iouQ A0 A2 A4 A6 j P * ctrQ A0 A4 A6 j P else 0
/-- What a point with a box adds to the weight. -/
def wT : EReal := if posQ A0 A4 A6 j P then ctrQ A0 A4 A6 j P else 0
/-- What a point with a box adds to the centre loss. -/
def ctrT : EReal := if posQ A0 A4 A6 j P then bceS (A3 (ix2 j P)) (ctrQ A0 A4 A6 j P) else 0
/-- Whether a class is the label of a point's box. -/
def ohQ (c : Fin 80) : EReal :=
  if posQ A0 A4 A6 j P ∧ A5 (ix2 j (boxQ A0 A4 A6 j P)) = BitVec.ofNat 32 (c.val + 1) then 1 else 0
/-- What a score adds to the class loss. -/
def clsT (c : Fin 80) : EReal := bceS (A1 (ix3 j P c)) (ohQ A0 A4 A5 A6 j P c)

end Args

end Cert.Proof.Q

end
-- ==== Proof.ImageRead.lean ====
module

public import proofs.«01_k».proof.Proof.ImageLoad
public import proofs.«01_k».proof.Proof.Quant

@[expose] public section

set_option maxRecDepth 16384

noncomputable section

/-! One image of one block of points, point by point. -/

namespace Cert.Proof.Img

open Cert.KernelIdeal Cert.KernelIdeal.Gen
open Idealize.ShloMosaic Idealize.ShloMosaic.TcCoe Idealize.ShloMosaic.Tactic
open Cert.Proof
open scoped Classical

theorem selBit (p : Prop) [Decidable p] {α : Type} (x y : α) : Scalar.select (BitVec.ofBool (decide p)) x y = if p then x else y := by
  by_cases h : p <;> simp [h, Scalar.select]

theorem andBit (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem eqBit {w : ℕ} (x y : BitVec w) : IntOp.cmpi .eq x y = BitVec.ofBool (decide (x = y)) := rfl

section

variable (n : ℕ) (hn : n < 9) (p : Fin 2048)

include hn in
theorem lo_at : lo (F := Ideal) (colPt (BitVec.ofNat 32 n)) (ix2 0 p) = Q.loQ (n * 2048 + p.val) := by
  pointwise [lo, colPt]
  rw [word_lt n p 12800 hn p.2 (by omega), word_lt n p 16000 hn p.2 (by omega), word_lt n p 16800 hn p.2 (by omega), word_lt n p 17008 hn p.2 (by omega)]
  simp only [selBit]
  rfl

include hn in
theorem hi_at : hi (F := Ideal) (colPt (BitVec.ofNat 32 n)) (ix2 0 p) = Q.hiQ (n * 2048 + p.val) := by
  pointwise [hi, colPt]
  rw [word_lt n p 12800 hn p.2 (by omega), word_lt n p 16000 hn p.2 (by omega), word_lt n p 16800 hn p.2 (by omega), word_lt n p 17008 hn p.2 (by omega)]
  simp only [selBit]
  rfl

include hn in
theorem inr_at : inr (colPt (BitVec.ofNat 32 n)) (ix2 0 p) = BitVec.ofBool (decide (n * 2048 + p.val < 17064)) := by
  pointwise [inr, colPt]
  exact word_lt n p 17064 hn p.2 (by omega)

include hn in
theorem colv_at : colv (BitVec.ofNat 32 n) (ix2 p 0) = BitVec.ofBool (decide (n * 2048 + p.val < 17064)) := by
  pointwise [colv]
  exact word_lt n p 17064 hn p.2 (by omega)

theorem area_at (xs ys l h : FVec Ideal S1x2048 .f32) (gtb : FVec Ideal S50x4 .f32) (gta : FVec Ideal S50x1 .f32) (g : Fin 50) :
    area xs ys l h gtb gta (ix2 g p) = Q.areaS (xs (ix2 0 p)) (ys (ix2 0 p)) (l (ix2 0 p)) (h (ix2 0 p)) (gtb (ix2 g 0)) (gtb (ix2 g 1)) (gtb (ix2 g 2)) (gtb (ix2 g 3)) (gta (ix2 g 0)) := by
  pointwise [area]
  simp only [andBit, selBit]
  unfold Q.areaS
  simp only [and_assoc]
  rfl

theorem minA_at (a : FVec Ideal S50x2048 .f32) : minA a (ix2 0 p) = Q.mnF (fun g => a (ix2 g p)) := by
  pointwise [minA]
  rfl

theorem ind_at (a : FVec Ideal S50x2048 .f32) : ind a (minA a) (ix2 0 p) = BitVec.ofNat 32 (Q.first (fun g => a (ix2 g p))).val := by
  have h := minA_at p a
  generalize minA a = mn at h ⊢
  rw [← Q.fold_first _ 50 (by omega), ← h]
  pointwise [ind]

theorem pos_at (mn : FVec Ideal S1x2048 .f32) (i : IVec S1x2048 1) :
    pos mn i (ix2 0 p) = IntOp.andi (BitVec.ofBool (decide (mn (ix2 0 p) < Q.INF))) (i (ix2 0 p)) := by
  pointwise [pos]
  rfl

theorem hot_at (i : IVec S1x2048 32) (ps : IVec S1x2048 1) (g : Fin 50) :
    hot (F := Ideal) i ps (ix2 g p) = Scalar.select (IntOp.andi (IntOp.cmpi .eq (BitVec.ofNat 32 g.val) (i (ix2 0 p))) (ps (ix2 0 p))) (1 : EReal) 0 := by
  pointwise [hot]

theorem sel_at (b : FVec Ideal S50x4 .f32) (h : FVec Ideal S50x2048 .f32) (q : Fin 4) :
    sel b h (ix2 q p) = ∑ g : Fin 50, b (ix2 g q) * h (ix2 g p) := by
  pointwise [sel]

theorem tl_at (x : FVec Ideal S1x2048 .f32) (ps : IVec S1x2048 1) (s : FVec Ideal S4x2048 .f32) :
    tl x ps s (ix2 0 p) = Scalar.select (ps (ix2 0 p)) (x (ix2 0 p) - s (ix2 0 p)) (1 : EReal) := by pointwise [tl]
theorem tt_at (x : FVec Ideal S1x2048 .f32) (ps : IVec S1x2048 1) (s : FVec Ideal S4x2048 .f32) :
    tt x ps s (ix2 0 p) = Scalar.select (ps (ix2 0 p)) (x (ix2 0 p) - s (ix2 1 p)) (1 : EReal) := by pointwise [tt]
theorem tr_at (x : FVec Ideal S1x2048 .f32) (ps : IVec S1x2048 1) (s : FVec Ideal S4x2048 .f32) :
    tr x ps s (ix2 0 p) = Scalar.select (ps (ix2 0 p)) (s (ix2 2 p) - x (ix2 0 p)) (1 : EReal) := by pointwise [tr]
theorem tb_at (x : FVec Ideal S1x2048 .f32) (ps : IVec S1x2048 1) (s : FVec Ideal S4x2048 .f32) :
    tb x ps s (ix2 0 p) = Scalar.select (ps (ix2 0 p)) (s (ix2 3 p) - x (ix2 0 p)) (1 : EReal) := by pointwise [tb]
theorem pr0_at (b : FVec Ideal S4x2048 .f32) (ps : IVec S1x2048 1) :
    pr0 b ps (ix2 0 p) = Scalar.select (ps (ix2 0 p)) (max (b (ix2 0 p)) 0) (1 : EReal) := by pointwise [pr0]
theorem pr1_at (b : FVec Ideal S4x2048 .f32) (ps : IVec S1x2048 1) :
    pr1 b ps (ix2 0 p) = Scalar.select (ps (ix2 0 p)) (max (b (ix2 1 p)) 0) (1 : EReal) := by pointwise [pr1]
theorem pr2_at (b : FVec Ideal S4x2048 .f32) (ps : IVec S1x2048 1) :
    pr2 b ps (ix2 0 p) = Scalar.select (ps (ix2 0 p)) (max (b (ix2 2 p)) 0) (1 : EReal) := by pointwise [pr2]
theorem pr3_at (b : FVec Ideal S4x2048 .f32) (ps : IVec S1x2048 1) :
    pr3 b ps (ix2 0 p) = Scalar.select (ps (ix2 0 p)) (max (b (ix2 3 p)) 0) (1 : EReal) := by pointwise [pr3]

theorem ctrT_at (l t r b : FVec Ideal S1x2048 .f32) :
    ctrT l t r b (ix2 0 p) = Q.ctrS (l (ix2 0 p)) (t (ix2 0 p)) (r (ix2 0 p)) (b (ix2 0 p)) := by
  pointwise [ctrT]
  rfl

theorem iouL_at (l t r b pl pt pr pb : FVec Ideal S1x2048 .f32) :
    iouL l t r b pl pt pr pb (ix2 0 p) = Q.iouS (l (ix2 0 p)) (t (ix2 0 p)) (r (ix2 0 p)) (b (ix2 0 p)) (pl (ix2 0 p)) (pt (ix2 0 p)) (pr (ix2 0 p)) (pb (ix2 0 p)) := by
  pointwise [iouL]
  simp only [zero_sub, Q.iouS, Q.eps]

theorem ctrB_at (c t : FVec Ideal S1x2048 .f32) : ctrB c t (ix2 0 p) = Q.bceS (c (ix2 0 p)) (t (ix2 0 p)) := by
  pointwise [ctrB]
  simp only [zero_sub, Q.bceS, Q.spS, Ideal.absf_def]

theorem total_at (ps : IVec S1x2048 1) (v : FVec Ideal S1x2048 .f32) :
    total ps v = ∑ p : Fin 2048, Scalar.select (ps (ix2 0 p)) (v (ix2 0 p)) (0 : EReal) := by
  pointwise [total]
  simp

theorem xm_at (cv : IVec S2048x1 1) (x : FVec Ideal S2048x80 .f32) (c : Fin 80) :
    xm cv x (ix2 p c) = Scalar.select (cv (ix2 p 0)) (x (ix2 p c)) (0 : EReal) := by pointwise [xm]

theorem dense_at (x : FVec Ideal S2048x80 .f32) :
    dense x = ∑ p : Fin 2048, ∑ c : Fin 80, ((x (ix2 p c) + max (x (ix2 p c)) (-x (ix2 p c))) * Ideal.ofBits .f32 0x3F000000#32 + Q.spS (x (ix2 p c))) := by
  pointwise [dense]
  simp only [zero_sub, Q.spS, Ideal.absf_def]

theorem pick_at (h : FVec Ideal S50x2048 .f32) (x : FVec Ideal S2048x80 .f32) (l : IVec S50x1 32) :
    pick h x l = ∑ g : Fin 50, ∑ c : Fin 80, if l (ix2 g 0) = BitVec.ofNat 32 (c.val + 1) then ∑ p : Fin 2048, h (ix2 g p) * x (ix2 p c) else (0 : EReal) := by
  pointwise [pick]
  simp only [eqBit, selBit, IntOp.addi, ← BitVec.ofNat_add]

end

end Cert.Proof.Img

end
-- ==== Proof.ImageValue.lean ====
module

public import proofs.«01_k».proof.Proof.ImageRead

@[expose] public section

set_option maxRecDepth 16384

noncomputable section

/-! The sums of one image of one block, from the arguments. -/

namespace Cert.Proof.Img

open Cert.KernelIdeal Cert.KernelIdeal.Gen
open Idealize.ShloMosaic Idealize.ShloMosaic.TcCoe Idealize.ShloMosaic.Tactic
open Cert.Proof
open scoped Classical

variable (A0 : (⟨2, ![17064, 2]⟩ : Shape).Idx → EReal) (A1 : (⟨3, ![4, 17064, 80]⟩ : Shape).Idx → EReal)
  (A2 : (⟨3, ![4, 17064, 4]⟩ : Shape).Idx → EReal) (A3 : (⟨2, ![4, 17064]⟩ : Shape).Idx → EReal)
  (A4 : (⟨3, ![4, 50, 4]⟩ : Shape).Idx → EReal) (A5 : (⟨2, ![4, 50]⟩ : Shape).Idx → BitVec 32)
  (A6 : (⟨2, ![4, 50]⟩ : Shape).Idx → EReal)
  (X0 : Vec Ideal S2x2048 .f32) (X1 : Vec Ideal S4x2048x80 .f32) (X2 : Vec Ideal S4x4x2048 .f32) (X3 : Vec Ideal S4x2048 .f32)
  (X4 : Vec Ideal S4x50x4 .f32) (X5 : Vec Ideal S4x50x1 .i32) (X6 : Vec Ideal S4x50x1 .f32)

/-- The blocks hold the points of the arguments from `n · 2048` on, as far as there are points. -/
structure Holds (n : ℕ) : Prop where
  h0 : ∀ (a : Fin 2) (p : Fin 2048) (h : n * 2048 + p.val < 17064), X0 (ix2 a p) = A0 (ix2 ⟨_, h⟩ a)
  h1 : ∀ (j : Fin 4) (p : Fin 2048) (c : Fin 80) (h : n * 2048 + p.val < 17064), X1 (ix3 j p c) = A1 (ix3 j ⟨_, h⟩ c)
  h2 : ∀ (j q : Fin 4) (p : Fin 2048) (h : n * 2048 + p.val < 17064), X2 (ix3 j q p) = A2 (ix3 j ⟨_, h⟩ q)
  h3 : ∀ (j : Fin 4) (p : Fin 2048) (h : n * 2048 + p.val < 17064), X3 (ix2 j p) = A3 (ix2 j ⟨_, h⟩)
  h4 : ∀ (j : Fin 4) (g : Fin 50) (q : Fin 4), X4 (ix3 j g q) = A4 (ix3 j g q)
  h5 : ∀ (j : Fin 4) (g : Fin 50), X5 (ix3 j g 0) = A5 (ix2 j g)
  h6 : ∀ (j : Fin 4) (g : Fin 50), X6 (ix3 j g 0) = A6 (ix2 j g)

variable (n : ℕ) (hn : n < 9) (H : Holds A0 A1 A2 A3 A4 A5 A6 X0 X1 X2 X3 X4 X5 X6 n) (j : Fin 4) (p : Fin 2048)

include hn in
theorem pos_out (h : ¬ n * 2048 + p.val < 17064) : posI (BitVec.ofNat 32 n) X0 X4 X6 j (ix2 0 p) = 0#1 := by
  unfold posI
  rw [pos_at, inr_at n hn p, decide_eq_false h]
  simp [IntOp.andi]

include hn in
theorem hot_out (h : ¬ n * 2048 + p.val < 17064) (g : Fin 50) : hotI (BitVec.ofNat 32 n) X0 X4 X6 j (ix2 g p) = 0 := by
  unfold hotI
  rw [hot_at, pos_out X0 X4 X6 n hn j p h]
  simp [IntOp.andi, Scalar.select]

variable (h : n * 2048 + p.val < 17064)

include hn H in
theorem areaI_at (g : Fin 50) : areaI (BitVec.ofNat 32 n) X0 X4 X6 j (ix2 g p) = Q.areaQ A0 A4 A6 j ⟨_, h⟩ g := by
  unfold areaI
  rw [area_at, ldX_at, ldY_at, lo_at n hn p, hi_at n hn p, ldG_at, ldG_at, ldG_at, ldG_at, ldA_at, H.h0 0 p h, H.h0 1 p h, H.h4, H.h4, H.h4, H.h4, H.h6]
  rfl

include hn H in
theorem areaI_row : (fun g => areaI (BitVec.ofNat 32 n) X0 X4 X6 j (ix2 g p)) = Q.areaQ A0 A4 A6 j ⟨_, h⟩ :=
  funext fun g => areaI_at A0 A1 A2 A3 A4 A5 A6 X0 X1 X2 X3 X4 X5 X6 n hn H j p h g

include hn H in
theorem posI_at : posI (BitVec.ofNat 32 n) X0 X4 X6 j (ix2 0 p) = BitVec.ofBool (decide (Q.posQ A0 A4 A6 j ⟨_, h⟩)) := by
  unfold posI
  rw [pos_at, inr_at n hn p, minA_at, areaI_row A0 A1 A2 A3 A4 A5 A6 X0 X1 X2 X3 X4 X5 X6 n hn H j p h, decide_eq_true h]
  unfold Q.posQ
  by_cases h' : Q.mnF (Q.areaQ A0 A4 A6 j ⟨_, h⟩) < Q.INF <;> simp [h', IntOp.andi]

include hn H in
theorem hotI_at (g : Fin 50) : hotI (BitVec.ofNat 32 n) X0 X4 X6 j (ix2 g p)
    = if g = Q.boxQ A0 A4 A6 j ⟨_, h⟩ ∧ Q.posQ A0 A4 A6 j ⟨_, h⟩ then (1 : EReal) else 0 := by
  unfold hotI
  rw [hot_at, posI_at A0 A1 A2 A3 A4 A5 A6 X0 X1 X2 X3 X4 X5 X6 n hn H j p h, ind_at, areaI_row A0 A1 A2 A3 A4 A5 A6 X0 X1 X2 X3 X4 X5 X6 n hn H j p h,
    eqBit, andBit, selBit]
  have e : (BitVec.ofNat 32 g.val = BitVec.ofNat 32 (Q.first (Q.areaQ A0 A4 A6 j ⟨_, h⟩)).val) ↔ g = Q.boxQ A0 A4 A6 j ⟨_, h⟩ := by
    constructor
    · intro e
      have e := congrArg BitVec.toInt e
      rw [Q.toInt_small _ (by omega), Q.toInt_small _ (by omega)] at e
      exact Fin.ext (by exact_mod_cast e)
    · intro e; rw [e]; rfl
  rw [if_congr (and_congr_left' e) rfl rfl]

include hn H in
theorem selI_at (q : Fin 4) (hp : Q.posQ A0 A4 A6 j ⟨_, h⟩) : selI (BitVec.ofNat 32 n) X0 X4 X6 j (ix2 q p)
    = A4 (ix3 j (Q.boxQ A0 A4 A6 j ⟨_, h⟩) q) := by
  unfold selI
  rw [sel_at, Finset.sum_eq_single (Q.boxQ A0 A4 A6 j ⟨_, h⟩)]
  · rw [hotI_at A0 A1 A2 A3 A4 A5 A6 X0 X1 X2 X3 X4 X5 X6 n hn H j p h, if_pos ⟨rfl, hp⟩, mul_one, ldG_at, H.h4]
  · intro g _ hg
    rw [hotI_at A0 A1 A2 A3 A4 A5 A6 X0 X1 X2 X3 X4 X5 X6 n hn H j p h, if_neg (fun e => hg e.1), mul_zero]
  · intro e; exact absurd (Finset.mem_univ _) e

include hn H in
theorem tlI_at : tl (ldX X0) (posI (BitVec.ofNat 32 n) X0 X4 X6 j) (selI (BitVec.ofNat 32 n) X0 X4 X6 j) (ix2 0 p) = Q.tlQ A0 A4 A6 j ⟨_, h⟩ := by
  rw [tl_at, posI_at A0 A1 A2 A3 A4 A5 A6 X0 X1 X2 X3 X4 X5 X6 n hn H j p h, selBit, ldX_at, H.h0 0 p h]
  unfold Q.tlQ
  by_cases hp : Q.posQ A0 A4 A6 j ⟨_, h⟩
  · rw [if_pos hp, if_pos hp, selI_at A0 A1 A2 A3 A4 A5 A6 X0 X1 X2 X3 X4 X5 X6 n hn H j p h 0 hp]
  · rw [if_neg hp, if_neg hp]

include hn H in
theorem ttI_at : tt (ldY X0) (posI (BitVec.ofNat 32 n) X0 X4 X6 j) (selI (BitVec.ofNat 32 n) X0 X4 X6 j) (ix2 0 p) = Q.ttQ A0 A4 A6 j ⟨_, h⟩ := by
  rw [tt_at, posI_at A0 A1 A2 A3 A4 A5 A6 X0 X1 X2 X3 X4 X5 X6 n hn H j p h, selBit, ldY_at, H.h0 1 p h]
  unfold Q.ttQ
  by_cases hp : Q.posQ A0 A4 A6 j ⟨_, h⟩
  · rw [if_pos hp, if_pos hp, selI_at A0 A1 A2 A3 A4 A5 A6 X0 X1 X2 X3 X4 X5 X6 n hn H j p h 1 hp]
  · rw [if_neg hp, if_neg hp]

include hn H in
theorem trI_at : tr (ldX X0) (posI (BitVec.ofNat 32 n) X0 X4 X6 j) (selI (BitVec.ofNat 32 n) X0 X4 X6 j) (ix2 0 p) = Q.trQ A0 A4 A6 j ⟨_, h⟩ := by
  rw [tr_at, posI_at A0 A1 A2 A3 A4 A5 A6 X0 X1 X2 X3 X4 X5 X6 n hn H j p h, selBit, ldX_at, H.h0 0 p h]
  unfold Q.trQ
  by_cases hp : Q.posQ A0 A4 A6 j ⟨_, h⟩
  · rw [if_pos hp, if_pos hp, selI_at A0 A1 A2 A3 A4 A5 A6 X0 X1 X2 X3 X4 X5 X6 n hn H j p h 2 hp]
  · rw [if_neg hp, if_neg hp]

include hn H in
theorem tbI_at : tb (ldY X0) (posI (BitVec.ofNat 32 n) X0 X4 X6 j) (selI (BitVec.ofNat 32 n) X0 X4 X6 j) (ix2 0 p) = Q.tbQ A0 A4 A6 j ⟨_, h⟩ := by
  rw [tb_at, posI_at A0 A1 A2 A3 A4 A5 A6 X0 X1 X2 X3 X4 X5 X6 n hn H j p h, selBit, ldY_at, H.h0 1 p h]
  unfold Q.tbQ
  by_cases hp : Q.posQ A0 A4 A6 j ⟨_, h⟩
  · rw [if_pos hp, if_pos hp, selI_at A0 A1 A2 A3 A4 A5 A6 X0 X1 X2 X3 X4 X5 X6 n hn H j p h 3 hp]
  · rw [if_neg hp, if_neg hp]

include hn H in
theorem pr0I_at : pr0 (ldB j X2) (posI (BitVec.ofNat 32 n) X0 X4 X6 j) (ix2 0 p) = Q.prQ A0 A2 A4 A6 j ⟨_, h⟩ 0 := by
  rw [pr0_at, posI_at A0 A1 A2 A3 A4 A5 A6 X0 X1 X2 X3 X4 X5 X6 n hn H j p h, selBit, ldB_at, H.h2 j 0 p h]
  rfl

include hn H in
theorem pr1I_at : pr1 (ldB j X2) (posI (BitVec.ofNat 32 n) X0 X4 X6 j) (ix2 0 p) = Q.prQ A0 A2 A4 A6 j ⟨_, h⟩ 1 := by
  rw [pr1_at, posI_at A0 A1 A2 A3 A4 A5 A6 X0 X1 X2 X3 X4 X5 X6 n hn H j p h, selBit, ldB_at, H.h2 j 1 p h]
  rfl

include hn H in
theorem pr2I_at : pr2 (ldB j X2) (posI (BitVec.ofNat 32 n) X0 X4 X6 j) (ix2 0 p) = Q.prQ A0 A2 A4 A6 j ⟨_, h⟩ 2 := by
  rw [pr2_at, posI_at A0 A1 A2 A3 A4 A5 A6 X0 X1 X2 X3 X4 X5 X6 n hn H j p h, selBit, ldB_at, H.h2 j 2 p h]
  rfl

include hn H in
theorem pr3I_at : pr3 (ldB j X2) (posI (BitVec.ofNat 32 n) X0 X4 X6 j) (ix2 0 p) = Q.prQ A0 A2 A4 A6 j ⟨_, h⟩ 3 := by
  rw [pr3_at, posI_at A0 A1 A2 A3 A4 A5 A6 X0 X1 X2 X3 X4 X5 X6 n hn H j p h, selBit, ldB_at, H.h2 j 3 p h]
  rfl

include hn H in
theorem ctrI_at : ctrI (BitVec.ofNat 32 n) X0 X4 X6 j (ix2 0 p) = Q.ctrQ A0 A4 A6 j ⟨_, h⟩ := by
  unfold ctrI
  rw [ctrT_at, tlI_at A0 A1 A2 A3 A4 A5 A6 X0 X1 X2 X3 X4 X5 X6 n hn H j p h, ttI_at A0 A1 A2 A3 A4 A5 A6 X0 X1 X2 X3 X4 X5 X6 n hn H j p h, trI_at A0 A1 A2 A3 A4 A5 A6 X0 X1 X2 X3 X4 X5 X6 n hn H j p h, tbI_at A0 A1 A2 A3 A4 A5 A6 X0 X1 X2 X3 X4 X5 X6 n hn H j p h]
  rfl

include hn H in
theorem iouI_at : iouI (BitVec.ofNat 32 n) X0 X2 X4 X6 j (ix2 0 p) = Q.iouQ A0 A2 A4 A6 j ⟨_, h⟩ := by
  unfold iouI
  rw [iouL_at, tlI_at A0 A1 A2 A3 A4 A5 A6 X0 X1 X2 X3 X4 X5 X6 n hn H j p h, ttI_at A0 A1 A2 A3 A4 A5 A6 X0 X1 X2 X3 X4 X5 X6 n hn H j p h, trI_at A0 A1 A2 A3 A4 A5 A6 X0 X1 X2 X3 X4 X5 X6 n hn H j p h, tbI_at A0 A1 A2 A3 A4 A5 A6 X0 X1 X2 X3 X4 X5 X6 n hn H j p h,
    pr0I_at A0 A1 A2 A3 A4 A5 A6 X0 X1 X2 X3 X4 X5 X6 n hn H j p h, pr1I_at A0 A1 A2 A3 A4 A5 A6 X0 X1 X2 X3 X4 X5 X6 n hn H j p h, pr2I_at A0 A1 A2 A3 A4 A5 A6 X0 X1 X2 X3 X4 X5 X6 n hn H j p h, pr3I_at A0 A1 A2 A3 A4 A5 A6 X0 X1 X2 X3 X4 X5 X6 n hn H j p h]
  rfl

omit h

include hn H in
/-- A masked sum over the block, from its terms. -/
theorem total_eq (v : FVec Ideal S1x2048 .f32) (y : Fin 17064 → EReal)
    (hv : ∀ (p : Fin 2048) (h : n * 2048 + p.val < 17064), v (ix2 0 p) = y ⟨_, h⟩) :
    total (posI (BitVec.ofNat 32 n) X0 X4 X6 j) v
      = ∑ p : Fin 2048, if h : n * 2048 + p.val < 17064 then (if Q.posQ A0 A4 A6 j ⟨_, h⟩ then y ⟨_, h⟩ else 0) else 0 := by
  rw [total_at]
  refine Finset.sum_congr rfl fun p _ => ?_
  by_cases h : n * 2048 + p.val < 17064
  · rw [dif_pos h, posI_at A0 A1 A2 A3 A4 A5 A6 X0 X1 X2 X3 X4 X5 X6 n hn H j p h, selBit, hv p h]
  · rw [dif_neg h, pos_out X0 X4 X6 n hn j p h]
    simp [Scalar.select]

include hn H in
theorem iouS_eq : iouS (BitVec.ofNat 32 n) X0 X2 X4 X6 j
    = ∑ p : Fin 2048, if h : n * 2048 + p.val < 17064 then Q.iouT A0 A2 A4 A6 j ⟨_, h⟩ else 0 :=
  total_eq A0 A1 A2 A3 A4 A5 A6 X0 X1 X2 X3 X4 X5 X6 n hn H j _ (fun P => Q.iouQ A0 A2 A4 A6 j P * Q.ctrQ A0 A4 A6 j P) fun p h => by
    rw [ValueIdx.mulf_apply, iouI_at A0 A1 A2 A3 A4 A5 A6 X0 X1 X2 X3 X4 X5 X6 n hn H j p h, ctrI_at A0 A1 A2 A3 A4 A5 A6 X0 X1 X2 X3 X4 X5 X6 n hn H j p h]

include hn H in
theorem wS_eq : wS (BitVec.ofNat 32 n) X0 X4 X6 j
    = ∑ p : Fin 2048, if h : n * 2048 + p.val < 17064 then Q.wT A0 A4 A6 j ⟨_, h⟩ else 0 :=
  total_eq A0 A1 A2 A3 A4 A5 A6 X0 X1 X2 X3 X4 X5 X6 n hn H j _ (fun P => Q.ctrQ A0 A4 A6 j P) fun p h => by
    rw [ctrI_at A0 A1 A2 A3 A4 A5 A6 X0 X1 X2 X3 X4 X5 X6 n hn H j p h]

include hn H in
theorem ctrS_eq : ctrS (BitVec.ofNat 32 n) X0 X3 X4 X6 j
    = ∑ p : Fin 2048, if h : n * 2048 + p.val < 17064 then Q.ctrT A0 A3 A4 A6 j ⟨_, h⟩ else 0 :=
  total_eq A0 A1 A2 A3 A4 A5 A6 X0 X1 X2 X3 X4 X5 X6 n hn H j _ (fun P => Q.bceS (A3 (ix2 j P)) (Q.ctrQ A0 A4 A6 j P)) fun p h => by
    rw [ctrB_at, ldT_at, H.h3 j p h, ctrI_at A0 A1 A2 A3 A4 A5 A6 X0 X1 X2 X3 X4 X5 X6 n hn H j p h]

end Cert.Proof.Img

end
-- ==== Proof.Extended.lean ====
module

public import proofs.«01_k».proof.Proof.Quant

@[expose] public section

noncomputable section

/-! Sums and constants over the extended reals. -/

namespace Cert.Proof.Q

open Idealize.ShloMosaic

theorem ofBits_half : Ideal.ofBits .f32 0x3F000000#32 = ((1 / 2 : ℝ) : EReal) := by
  simp [Ideal.ofBits, Ideal.ieee, -EReal.coe_mul]; norm_num

theorem ofBits_count : Ideal.ofBits .f32 0x4AA6A400#32 = ((5460480 : ℝ) : EReal) := by
  simp [Ideal.ofBits, Ideal.ieee, -EReal.coe_mul]; norm_num

/-- Half of a number and its absolute value. -/
theorem half_abs (x : EReal) (hx : x ≠ ⊥) : (x + max x (-x)) * Ideal.ofBits .f32 0x3F000000#32 = max x 0 := by
  rw [ofBits_half]
  induction x with
  | bot => exact absurd rfl hx
  | top =>
    rw [max_eq_left (by simp), max_eq_left le_top, EReal.top_add_top, EReal.top_mul_coe_of_pos (by norm_num)]
  | coe r =>
    rcases le_total 0 r with h | h
    · rw [max_eq_left (by exact_mod_cast (by linarith : -r ≤ r)), max_eq_left (by exact_mod_cast h)]
      rw [← EReal.coe_add, ← EReal.coe_mul]; congr 1; ring
    · rw [max_eq_right (by exact_mod_cast (by linarith : r ≤ -r)), max_eq_right (by exact_mod_cast h)]
      rw [← EReal.coe_neg, ← EReal.coe_add, ← EReal.coe_mul]; simp

/-- What a score of nought adds. -/
theorem sp_zero : spS 0 = ((Real.log 2 : ℝ) : EReal) := by
  have h : (0 : EReal) = ((0 : ℝ) : EReal) := rfl
  unfold spS Ideal.log1p
  rw [neg_zero, max_self, neg_zero, h, Ideal.exp_coe, Real.exp_zero]
  have : (1 : EReal) + ((1 : ℝ) : EReal) = ((2 : ℝ) : EReal) := by
    rw [show (1 : EReal) = ((1 : ℝ) : EReal) from rfl, ← EReal.coe_add]; norm_num
  rw [this, Ideal.log_coe, if_neg (by norm_num)]

/-- A sum of terms above minus infinity is above it, and its negative is the sum of the negatives. -/
theorem neg_sum {ι : Type} (s : Finset ι) (f : ι → EReal) (h : ∀ i, f i ≠ ⊥) : (∑ i ∈ s, f i) ≠ ⊥ ∧ -(∑ i ∈ s, f i) = ∑ i ∈ s, -f i := by
  classical
  induction s using Finset.induction_on with
  | empty => simp
  | insert a s ha ih =>
    rw [Finset.sum_insert ha, Finset.sum_insert ha]
    refine ⟨?_, ?_⟩
    · rw [Ne, EReal.add_eq_bot_iff, not_or]; exact ⟨h a, ih.1⟩
    · rw [EReal.neg_add (Or.inl (h a)) (Or.inr ih.1), sub_eq_add_neg, ih.2]

/-- The same number for the points past an end. -/
theorem sum_past (r : ℝ) (b m : ℕ) : (∑ p ∈ Finset.range m, if p < b then (0 : EReal) else (r : EReal)) = (((m - b : ℕ) * r : ℝ) : EReal) := by
  induction m with
  | zero => simp
  | succ m ih =>
    rw [Finset.sum_range_succ, ih]
    by_cases h : m < b
    · rw [if_pos h, add_zero]
      have e1 : m - b = 0 := by omega
      have e2 : m + 1 - b = 0 := by omega
      rw [e1, e2]
    · rw [if_neg h, ← EReal.coe_add]
      have e : m + 1 - b = (m - b) + 1 := by omega
      rw [e]
      refine congrArg _ ?_
      push_cast; ring

/-- The sum over the nine blocks of the points that exist. -/
theorem sum_blocks (f : Fin 17064 → EReal) :
    (∑ n : Fin 9, ∑ p : Fin 2048, if h : n.val * 2048 + p.val < 17064 then f ⟨_, h⟩ else 0) = ∑ P : Fin 17064, f P := by
  let g : ℕ → EReal := fun i => if h : i < 17064 then f ⟨i, h⟩ else 0
  have e1 : (∑ P : Fin 17064, f P) = ∑ i ∈ Finset.range 17064, g i := by
    rw [Finset.sum_range]
    exact Finset.sum_congr rfl fun P _ => by simp [g]
  have e2 : ∀ n : ℕ, (∑ p : Fin 2048, if h : n * 2048 + p.val < 17064 then f ⟨_, h⟩ else 0) = ∑ i ∈ Finset.range 2048, g (n * 2048 + i) := fun n => by
    rw [Finset.sum_range]
  have e3 : ∀ n : ℕ, (∑ i ∈ Finset.range n, ∑ p ∈ Finset.range 2048, g (i * 2048 + p)) = ∑ i ∈ Finset.range (n * 2048), g i := fun n => by
    induction n with
    | zero => simp
    | succ n ih => rw [Finset.sum_range_succ, ih, Nat.succ_mul, Finset.sum_range_add]
  rw [e1]
  calc (∑ n : Fin 9, ∑ p : Fin 2048, if h : n.val * 2048 + p.val < 17064 then f ⟨_, h⟩ else 0)
      = ∑ n : Fin 9, ∑ i ∈ Finset.range 2048, g (n.val * 2048 + i) := Finset.sum_congr rfl fun n _ => e2 n.val
    _ = ∑ n ∈ Finset.range 9, ∑ i ∈ Finset.range 2048, g (n * 2048 + i) := (Finset.sum_range (fun n => ∑ i ∈ Finset.range 2048, g (n * 2048 + i))).symm
    _ = ∑ i ∈ Finset.range (17064 + 1368), g i := e3 9
    _ = ∑ i ∈ Finset.range 17064, g i := by
      rw [Finset.sum_range_add, Finset.sum_eq_zero (s := Finset.range 1368), add_zero]
      intro i _
      have : ¬ (17064 + i < 17064) := by omega
      simp only [g, dif_neg this]

/-- The mean, as a product and as a quotient. -/
theorem mean_eq (x : EReal) : x * ((1 / 5460480 : ℝ) : EReal) = Ideal.div x (Ideal.ofBits .f32 0x4AA6A400#32) := by
  rw [ofBits_count, Ideal.div_coe (by norm_num)]

end Cert.Proof.Q

end
-- ==== Proof.ImageClass.lean ====
module

public import proofs.«01_k».proof.Proof.ImageValue
public import proofs.«01_k».proof.Proof.Extended

@[expose] public section

set_option maxRecDepth 16384

noncomputable section

/-! The class loss of one image of one block. -/

namespace Cert.Proof.Img

open Cert.KernelIdeal Cert.KernelIdeal.Gen
open Idealize.ShloMosaic Idealize.ShloMosaic.TcCoe Idealize.ShloMosaic.Tactic
open Cert.Proof
open scoped Classical

theorem npad_eq : ∀ n : ℕ, n < 9 → npad (F := Ideal) (BitVec.ofNat 32 n) = (((2048 - (17064 - n * 2048) : ℕ) : ℝ) : EReal) := by
  intro n hn
  have : ∀ n : Fin 9, (Scalar.maxsi (Scalar.subi (Scalar.muli (Scalar.addi (BitVec.ofNat 32 n.val) (1#32)) (2048#32)) (17064#32)) (0#32)).toInt = ((2048 - (17064 - n.val * 2048) : ℕ) : ℤ) := by
    decide
  show (((Scalar.maxsi (Scalar.subi (Scalar.muli (Scalar.addi (BitVec.ofNat 32 n) (1#32)) (2048#32)) (17064#32)) (0#32)).toInt : ℝ) : EReal) = _
  rw [this ⟨n, hn⟩]
  push_cast
  rfl

theorem pad_val : (Named.named (F := Ideal) κ "pad_bce" (φ := .f32) 0x425DCE9E#32) = ((80 * Real.log 2 : ℝ) : EReal) :=
  IdealRules.named_const.ideal_named_scalar _ _ _ _ rfl

variable (A0 : (⟨2, ![17064, 2]⟩ : Shape).Idx → EReal) (A1 : (⟨3, ![4, 17064, 80]⟩ : Shape).Idx → EReal)
  (A2 : (⟨3, ![4, 17064, 4]⟩ : Shape).Idx → EReal) (A3 : (⟨2, ![4, 17064]⟩ : Shape).Idx → EReal)
  (A4 : (⟨3, ![4, 50, 4]⟩ : Shape).Idx → EReal) (A5 : (⟨2, ![4, 50]⟩ : Shape).Idx → BitVec 32)
  (A6 : (⟨2, ![4, 50]⟩ : Shape).Idx → EReal)
  (X0 : Vec Ideal S2x2048 .f32) (X1 : Vec Ideal S4x2048x80 .f32) (X2 : Vec Ideal S4x4x2048 .f32) (X3 : Vec Ideal S4x2048 .f32)
  (X4 : Vec Ideal S4x50x4 .f32) (X5 : Vec Ideal S4x50x1 .i32) (X6 : Vec Ideal S4x50x1 .f32)
variable (n : ℕ) (hn : n < 9) (H : Holds A0 A1 A2 A3 A4 A5 A6 X0 X1 X2 X3 X4 X5 X6 n) (j : Fin 4)

/-- The scores of the block, with nought past the end. -/
def yQ (p : Fin 2048) (c : Fin 80) : EReal := if h : n * 2048 + p.val < 17064 then A1 (ix3 j ⟨_, h⟩ c) else 0

include hn H in
theorem xm_eq (p : Fin 2048) (c : Fin 80) : xm (colv (BitVec.ofNat 32 n)) (ldC j X1) (ix2 p c) = yQ A1 n j p c := by
  rw [xm_at, colv_at n hn p, selBit, ldC_at]
  unfold yQ
  by_cases h : n * 2048 + p.val < 17064
  · rw [if_pos h, dif_pos h, H.h1 j p c h]
  · rw [if_neg h, dif_neg h]

variable (hx : ∀ i, A1 i ≠ ⊥)

include hx in
theorem yQ_ne (p : Fin 2048) (c : Fin 80) : yQ A1 n j p c ≠ ⊥ := by
  unfold yQ
  split
  · exact hx _
  · simp

include hn H hx in
/-- The part without labels, and what the points past the end add to it. -/
theorem dense_eq : dense (xm (colv (BitVec.ofNat 32 n)) (ldC j X1))
    = (∑ p : Fin 2048, if h : n * 2048 + p.val < 17064 then ∑ c : Fin 80, (max (A1 (ix3 j ⟨_, h⟩ c)) 0 + Q.spS (A1 (ix3 j ⟨_, h⟩ c))) else 0)
      + (((2048 - (17064 - n * 2048) : ℕ) * (80 * Real.log 2) : ℝ) : EReal) := by
  rw [dense_at, ← Q.sum_past, Finset.sum_range, ← Finset.sum_add_distrib]
  refine Finset.sum_congr rfl fun p _ => ?_
  have e : ∀ c : Fin 80, (xm (colv (BitVec.ofNat 32 n)) (ldC j X1) (ix2 p c) + max (xm (colv (BitVec.ofNat 32 n)) (ldC j X1) (ix2 p c)) (-xm (colv (BitVec.ofNat 32 n)) (ldC j X1) (ix2 p c))) * Ideal.ofBits .f32 0x3F000000#32
      + Q.spS (xm (colv (BitVec.ofNat 32 n)) (ldC j X1) (ix2 p c)) = max (yQ A1 n j p c) 0 + Q.spS (yQ A1 n j p c) := fun c => by
    rw [xm_eq A0 A1 A2 A3 A4 A5 A6 X0 X1 X2 X3 X4 X5 X6 n hn H j p c, Q.half_abs _ (yQ_ne A1 n j hx p c)]
  rw [Finset.sum_congr rfl fun c _ => e c]
  unfold yQ
  by_cases h : n * 2048 + p.val < 17064
  · rw [dif_pos h, if_pos (by omega), add_zero]
    simp only [dif_pos h]
  · rw [dif_neg h, if_neg (by omega), zero_add]
    simp only [dif_neg h, max_self, zero_add, Q.sp_zero]
    rw [Finset.sum_const, Finset.card_univ, Fintype.card_fin, ← EReal.coe_nsmul, nsmul_eq_mul]
    norm_num

include hn H in
/-- The scores at the labels. -/
theorem pick_eq : pick (hotI (BitVec.ofNat 32 n) X0 X4 X6 j) (xm (colv (BitVec.ofNat 32 n)) (ldC j X1)) (ldL (F := Ideal) j X5)
    = ∑ p : Fin 2048, if h : n * 2048 + p.val < 17064 then ∑ c : Fin 80, A1 (ix3 j ⟨_, h⟩ c) * Q.ohQ A0 A4 A5 A6 j ⟨_, h⟩ c else 0 := by
  rw [pick_at]
  have e1 : ∀ (g : Fin 50) (c : Fin 80), (if ldL (F := Ideal) j X5 (ix2 g 0) = BitVec.ofNat 32 (c.val + 1) then ∑ p : Fin 2048, hotI (BitVec.ofNat 32 n) X0 X4 X6 j (ix2 g p) * xm (colv (BitVec.ofNat 32 n)) (ldC j X1) (ix2 p c) else (0 : EReal))
      = ∑ p : Fin 2048, if A5 (ix2 j g) = BitVec.ofNat 32 (c.val + 1) then hotI (BitVec.ofNat 32 n) X0 X4 X6 j (ix2 g p) * yQ A1 n j p c else 0 := fun g c => by
    rw [ldL_at, H.h5]
    split
    · exact Finset.sum_congr rfl fun p _ => by rw [xm_eq A0 A1 A2 A3 A4 A5 A6 X0 X1 X2 X3 X4 X5 X6 n hn H j p c]
    · simp
  rw [Finset.sum_congr rfl fun g _ => Finset.sum_congr rfl fun c _ => e1 g c]
  rw [Finset.sum_congr rfl fun g _ => Finset.sum_comm, Finset.sum_comm]
  refine Finset.sum_congr rfl fun p _ => ?_
  rw [Finset.sum_comm]
  by_cases h : n * 2048 + p.val < 17064
  · rw [dif_pos h]
    refine Finset.sum_congr rfl fun c _ => ?_
    rw [Finset.sum_eq_single (Q.boxQ A0 A4 A6 j ⟨_, h⟩)]
    · rw [hotI_at A0 A1 A2 A3 A4 A5 A6 X0 X1 X2 X3 X4 X5 X6 n hn H j p h]
      unfold Q.ohQ yQ
      rw [dif_pos h]
      by_cases h1 : Q.posQ A0 A4 A6 j ⟨_, h⟩ <;> by_cases h2 : A5 (ix2 j (Q.boxQ A0 A4 A6 j ⟨_, h⟩)) = BitVec.ofNat 32 (c.val + 1) <;> simp [h1, h2]
    · intro g _ hg
      have z : hotI (BitVec.ofNat 32 n) X0 X4 X6 j (ix2 g p) = 0 :=
        (hotI_at A0 A1 A2 A3 A4 A5 A6 X0 X1 X2 X3 X4 X5 X6 n hn H j p h g).trans (if_neg fun e => hg e.1)
      rw [z, zero_mul, ite_self]
    · intro e; exact absurd (Finset.mem_univ _) e
  · rw [dif_neg h]
    refine Finset.sum_eq_zero fun c _ => Finset.sum_eq_zero fun g _ => ?_
    rw [hot_out X0 X4 X6 n hn j p h, zero_mul, ite_self]

theorem oh_ne (j : Fin 4) (P : Fin 17064) (c : Fin 80) (hx : ∀ i, A1 i ≠ ⊥) : A1 (ix3 j P c) * Q.ohQ A0 A4 A5 A6 j P c ≠ ⊥ := by
  unfold Q.ohQ
  split
  · rw [mul_one]; exact hx _
  · simp

include hn H hx in
/-- The class loss of the image, from its scores. -/
theorem clsS_eq : clsS (BitVec.ofNat 32 n) X0 X1 X4 X5 X6 j
    = ∑ p : Fin 2048, if h : n * 2048 + p.val < 17064 then ∑ c : Fin 80, Q.clsT A0 A1 A4 A5 A6 j ⟨_, h⟩ c else 0 := by
  have s : clsS (BitVec.ofNat 32 n) X0 X1 X4 X5 X6 j = (dense (xm (colv (BitVec.ofNat 32 n)) (ldC j X1)) : EReal)
      - npad (F := Ideal) (BitVec.ofNat 32 n) * (Named.named (F := Ideal) κ "pad_bce" (φ := .f32) 0x425DCE9E#32)
      - pick (hotI (BitVec.ofNat 32 n) X0 X4 X6 j) (xm (colv (BitVec.ofNat 32 n)) (ldC j X1)) (ldL (F := Ideal) j X5) := rfl
  rw [s, dense_eq A0 A1 A2 A3 A4 A5 A6 X0 X1 X2 X3 X4 X5 X6 n hn H j hx, pick_eq A0 A1 A2 A3 A4 A5 A6 X0 X1 X2 X3 X4 X5 X6 n hn H j,
    npad_eq n hn, pad_val, ← EReal.coe_mul, EReal.add_sub_cancel_right, sub_eq_add_neg, (Q.neg_sum _ _ _).2, ← Finset.sum_add_distrib]
  · refine Finset.sum_congr rfl fun p _ => ?_
    by_cases h : n * 2048 + p.val < 17064
    · simp only [dif_pos h]
      rw [(Q.neg_sum _ _ fun c => oh_ne A0 A1 A4 A5 A6 j _ c hx).2, ← Finset.sum_add_distrib]
      refine Finset.sum_congr rfl fun c _ => ?_
      unfold Q.clsT Q.bceS
      rw [sub_eq_add_neg, add_right_comm]
    · simp only [dif_neg h]; simp
  · intro p
    by_cases h : n * 2048 + p.val < 17064
    · rw [dif_pos h]
      exact (Q.neg_sum _ _ fun c => oh_ne A0 A1 A4 A5 A6 j _ c hx).1
    · rw [dif_neg h]; simp

end Cert.Proof.Img

end
-- ==== Proof.KernelIdealBlocks.lean ====
module

public import proofs.«01_k».proof.Proof.KernelIdealPost
public import proofs.«01_k».proof.Proof.ImageClass

@[expose] public section

set_option maxRecDepth 16384

noncomputable section

/-! The blocks of a step hold the arguments' points. -/

namespace Cert.Proof.KernelIdeal

open Cert.KernelIdeal Cert.KernelIdeal.Gen
open Idealize.ShloMosaic Idealize.ShloMosaic.TcCoe Idealize.ShloMosaic.Tactic Idealize.ShloMosaic.StableHlo
open Cert.Proof

variable (m : (ℓ : Loc nD τ sig) → Buf (Elt Ideal) ℓ) (c : Dev nD)

/-- The arguments, by index. -/
abbrev g0 : S17064x2.Idx → EReal := m ((c : Thread nD τ).loc main_arg0)
abbrev g1 : S4x17064x80.Idx → EReal := m ((c : Thread nD τ).loc main_arg1)
abbrev g2 : S4x17064x4.Idx → EReal := m ((c : Thread nD τ).loc main_arg2)
abbrev g3 : S4x17064.Idx → EReal := m ((c : Thread nD τ).loc main_arg3)
abbrev g4 : S4x50x4.Idx → EReal := m ((c : Thread nD τ).loc main_arg4)
abbrev g5 : S4x50.Idx → BitVec 32 := m ((c : Thread nD τ).loc main_arg5)
abbrev g6 : S4x50.Idx → EReal := m ((c : Thread nD τ).loc main_arg6)

theorem v0_at (a : Fin 2) (P : Fin 17064) : (V m c main_call0_v0 : S2x17064.Idx → EReal) (ix2 a P) = g0 m c (ix2 P a) := by
  have e : (V m c main_call0_v0 : S2x17064.Idx → EReal) = transpose S2x17064 [1, 0] (g0 m c : FVec Ideal S17064x2 .f32) transposes_S17064x2_S2x17064_1_0 := by
    after_reads_simp
    rfl
  rw [e]
  generalize g0 m c = x
  pointwise

theorem v1_at (j q : Fin 4) (P : Fin 17064) : (V m c main_call0_v1 : S4x4x17064.Idx → EReal) (ix3 j q P) = g2 m c (ix3 j P q) := by
  have e : (V m c main_call0_v1 : S4x4x17064.Idx → EReal) = transpose S4x4x17064 [0, 2, 1] (g2 m c : FVec Ideal S4x17064x4 .f32) transposes_S4x17064x4_S4x4x17064_0_2_1 := by
    after_reads_simp
    rfl
  rw [e]
  generalize g2 m c = x
  pointwise

theorem v2_at (j : Fin 4) (g : Fin 50) : (V m c main_call0_v2 : S4x50x1.Idx → BitVec 32) (ix3 j g 0) = g5 m c (ix2 j g) := by
  have e : (V m c main_call0_v2 : S4x50x1.Idx → BitVec 32) = broadcastInDim S4x50x1 ![0, 1] bcast_S4x50_S4x50x1_0_1 (g5 m c : IVec S4x50 32) := by
    after_reads_simp
    rfl
  rw [e]
  generalize g5 m c = x
  pointwise

theorem v3_at (j : Fin 4) (g : Fin 50) : (V m c main_call0_v3 : S4x50x1.Idx → EReal) (ix3 j g 0) = g6 m c (ix2 j g) := by
  have e : (V m c main_call0_v3 : S4x50x1.Idx → EReal) = broadcastInDim S4x50x1 ![0, 1] bcast_S4x50_S4x50x1_0_1 (g6 m c : FVec Ideal S4x50 .f32) := by
    after_reads_simp
    rfl
  rw [e]
  generalize g6 m c = x
  pointwise

variable (t : Fin cfg0.N)

theorem coord_val : (grid0.coords t 0).val = t.val := by
  rcases fin_N0 t with rfl | rfl | rfl | rfl | rfl | rfl | rfl | rfl | rfl <;> decide

theorem x0 : win0_0.xsize (grid0.coords t) = ![2, min 2048 (17064 - t.val * 2048)] ∧ win0_0.index t = ![0, t.val] := by
  rcases fin_N0 t with rfl | rfl | rfl | rfl | rfl | rfl | rfl | rfl | rfl <;> exact ⟨by funext a; fin_cases a <;> decide, by funext a; fin_cases a <;> decide⟩

theorem x1 : win0_1.xsize (grid0.coords t) = ![4, min 2048 (17064 - t.val * 2048), 80] ∧ win0_1.index t = ![0, t.val, 0] := by
  rcases fin_N0 t with rfl | rfl | rfl | rfl | rfl | rfl | rfl | rfl | rfl <;> exact ⟨by funext a; fin_cases a <;> decide, by funext a; fin_cases a <;> decide⟩

theorem x2 : win0_2.xsize (grid0.coords t) = ![4, 4, min 2048 (17064 - t.val * 2048)] ∧ win0_2.index t = ![0, 0, t.val] := by
  rcases fin_N0 t with rfl | rfl | rfl | rfl | rfl | rfl | rfl | rfl | rfl <;> exact ⟨by funext a; fin_cases a <;> decide, by funext a; fin_cases a <;> decide⟩

theorem x3 : win0_3.xsize (grid0.coords t) = ![4, min 2048 (17064 - t.val * 2048)] ∧ win0_3.index t = ![0, t.val] := by
  rcases fin_N0 t with rfl | rfl | rfl | rfl | rfl | rfl | rfl | rfl | rfl <;> exact ⟨by funext a; fin_cases a <;> decide, by funext a; fin_cases a <;> decide⟩

theorem x4 : win0_4.index t = ![0, 0, 0] := by
  rcases fin_N0 t with rfl | rfl | rfl | rfl | rfl | rfl | rfl | rfl | rfl <;> (funext a; fin_cases a <;> decide)
theorem x5 : win0_5.index t = ![0, 0, 0] := by
  rcases fin_N0 t with rfl | rfl | rfl | rfl | rfl | rfl | rfl | rfl | rfl <;> (funext a; fin_cases a <;> decide)
theorem x6 : win0_6.index t = ![0, 0, 0] := by
  rcases fin_N0 t with rfl | rfl | rfl | rfl | rfl | rfl | rfl | rfl | rfl <;> (funext a; fin_cases a <;> decide)

theorem b0 (d : Vec Ideal S2x2048 .f32) (a : Fin 2) (p : Fin 2048) (h : t.val * 2048 + p.val < 17064) :
    win0_0.fill (grid0.coords t) d (iblk m c 0 t) (ix2 a p) = g0 m c (ix2 ⟨_, h⟩ a) := by
  have hx := (x0 t).1
  have hi := (x0 t).2
  have hm : win0_0.moved (grid0.coords t) (ix2 a p) = true := (win0_0.moved_iff _ _).mpr fun b => by
    rw [congrFun hx b]; fin_cases b
    · exact a.2
    · have := p.2; show p.val < min 2048 (17064 - t.val * 2048); omega
  unfold Pipeline.Window.fill
  rw [dif_pos hm]
  unfold iblk
  rw [View.read_apply, ← v0_at m c a ⟨_, h⟩]
  show V m c main_call0_v0 _ = V m c main_call0_v0 _
  congr 1
  funext b
  apply Fin.ext
  show win0_0.index t b * S2x2048.size b + 1 * (ix2 a p b).val = _
  rw [congrFun hi b]
  fin_cases b
  · show 0 * 2 + 1 * a.val = a.val; omega
  · show t.val * 2048 + 1 * p.val = t.val * 2048 + p.val; omega

theorem b1 (d : Vec Ideal S4x2048x80 .f32) (j : Fin 4) (p : Fin 2048) (k : Fin 80) (h : t.val * 2048 + p.val < 17064) :
    win0_1.fill (grid0.coords t) d (iblk m c 1 t) (ix3 j p k) = g1 m c (ix3 j ⟨_, h⟩ k) := by
  have hx := (x1 t).1
  have hi := (x1 t).2
  have hm : win0_1.moved (grid0.coords t) (ix3 j p k) = true := (win0_1.moved_iff _ _).mpr fun b => by
    rw [congrFun hx b]; fin_cases b
    · exact j.2
    · have := p.2; show p.val < min 2048 (17064 - t.val * 2048); omega
    · exact k.2
  unfold Pipeline.Window.fill
  rw [dif_pos hm]
  unfold iblk
  rw [View.read_apply]
  refine Eq.trans ?_ (congrFun (V_main_arg1 m c) _)
  show V m c main_arg1 _ = V m c main_arg1 _
  congr 1
  funext b
  apply Fin.ext
  show win0_1.index t b * S4x2048x80.size b + 1 * (ix3 j p k b).val = _
  rw [congrFun hi b]
  fin_cases b
  · show 0 * 4 + 1 * j.val = j.val; omega
  · show t.val * 2048 + 1 * p.val = t.val * 2048 + p.val; omega
  · show 0 * 80 + 1 * k.val = k.val; omega

theorem b2 (d : Vec Ideal S4x4x2048 .f32) (j q : Fin 4) (p : Fin 2048) (h : t.val * 2048 + p.val < 17064) :
    win0_2.fill (grid0.coords t) d (iblk m c 2 t) (ix3 j q p) = g2 m c (ix3 j ⟨_, h⟩ q) := by
  have hx := (x2 t).1
  have hi := (x2 t).2
  have hm : win0_2.moved (grid0.coords t) (ix3 j q p) = true := (win0_2.moved_iff _ _).mpr fun b => by
    rw [congrFun hx b]; fin_cases b
    · exact j.2
    · exact q.2
    · have := p.2; show p.val < min 2048 (17064 - t.val * 2048); omega
  unfold Pipeline.Window.fill
  rw [dif_pos hm]
  unfold iblk
  rw [View.read_apply, ← v1_at m c j q ⟨_, h⟩]
  show V m c main_call0_v1 _ = V m c main_call0_v1 _
  congr 1
  funext b
  apply Fin.ext
  show win0_2.index t b * S4x4x2048.size b + 1 * (ix3 j q p b).val = _
  rw [congrFun hi b]
  fin_cases b
  · show 0 * 4 + 1 * j.val = j.val; omega
  · show 0 * 4 + 1 * q.val = q.val; omega
  · show t.val * 2048 + 1 * p.val = t.val * 2048 + p.val; omega

theorem b3 (d : Vec Ideal S4x2048 .f32) (j : Fin 4) (p : Fin 2048) (h : t.val * 2048 + p.val < 17064) :
    win0_3.fill (grid0.coords t) d (iblk m c 3 t) (ix2 j p) = g3 m c (ix2 j ⟨_, h⟩) := by
  have hx := (x3 t).1
  have hi := (x3 t).2
  have hm : win0_3.moved (grid0.coords t) (ix2 j p) = true := (win0_3.moved_iff _ _).mpr fun b => by
    rw [congrFun hx b]; fin_cases b
    · exact j.2
    · have := p.2; show p.val < min 2048 (17064 - t.val * 2048); omega
  unfold Pipeline.Window.fill
  rw [dif_pos hm]
  unfold iblk
  rw [View.read_apply]
  refine Eq.trans ?_ (congrFun (V_main_arg3 m c) _)
  show V m c main_arg3 _ = V m c main_arg3 _
  congr 1
  funext b
  apply Fin.ext
  show win0_3.index t b * S4x2048.size b + 1 * (ix2 j p b).val = _
  rw [congrFun hi b]
  fin_cases b
  · show 0 * 4 + 1 * j.val = j.val; omega
  · show t.val * 2048 + 1 * p.val = t.val * 2048 + p.val; omega

theorem b4 (j : Fin 4) (g : Fin 50) (q : Fin 4) : (iblk m c 4 t : S4x50x4.Idx → EReal) (ix3 j g q) = g4 m c (ix3 j g q) := by
  have hi := x4 t
  unfold iblk
  rw [View.read_apply]
  refine Eq.trans ?_ (congrFun (V_main_arg4 m c) _)
  show V m c main_arg4 _ = V m c main_arg4 _
  congr 1
  funext b
  apply Fin.ext
  show win0_4.index t b * S4x50x4.size b + 1 * (ix3 j g q b).val = _
  rw [congrFun hi b]
  fin_cases b
  · show 0 * 4 + 1 * j.val = j.val; omega
  · show 0 * 50 + 1 * g.val = g.val; omega
  · show 0 * 4 + 1 * q.val = q.val; omega

theorem b5 (j : Fin 4) (g : Fin 50) : (iblk m c 5 t : S4x50x1.Idx → BitVec 32) (ix3 j g 0) = g5 m c (ix2 j g) := by
  have hi := x5 t
  unfold iblk
  rw [View.read_apply, ← v2_at m c j g]
  show V m c main_call0_v2 _ = V m c main_call0_v2 _
  congr 1
  funext b
  apply Fin.ext
  show win0_5.index t b * S4x50x1.size b + 1 * (ix3 j g 0 b).val = _
  rw [congrFun hi b]
  fin_cases b
  · show 0 * 4 + 1 * j.val = j.val; omega
  · show 0 * 50 + 1 * g.val = g.val; omega
  · rfl

theorem b6 (j : Fin 4) (g : Fin 50) : (iblk m c 6 t : S4x50x1.Idx → EReal) (ix3 j g 0) = g6 m c (ix2 j g) := by
  have hi := x6 t
  unfold iblk
  rw [View.read_apply, ← v3_at m c j g]
  show V m c main_call0_v3 _ = V m c main_call0_v3 _
  congr 1
  funext b
  apply Fin.ext
  show win0_6.index t b * S4x50x1.size b + 1 * (ix3 j g 0 b).val = _
  rw [congrFun hi b]
  fin_cases b
  · show 0 * 4 + 1 * j.val = j.val; omega
  · show 0 * 50 + 1 * g.val = g.val; omega
  · rfl

/-- The blocks of a step hold the arguments' points. -/
theorem holds (d0 : Vec Ideal S2x2048 .f32) (d1 : Vec Ideal S4x2048x80 .f32) (d2 : Vec Ideal S4x4x2048 .f32) (d3 : Vec Ideal S4x2048 .f32) :
    Img.Holds (g0 m c) (g1 m c) (g2 m c) (g3 m c) (g4 m c) (g5 m c) (g6 m c)
      (win0_0.fill (grid0.coords t) d0 (iblk m c 0 t)) (win0_1.fill (grid0.coords t) d1 (iblk m c 1 t))
      (win0_2.fill (grid0.coords t) d2 (iblk m c 2 t)) (win0_3.fill (grid0.coords t) d3 (iblk m c 3 t)) (iblk m c 4 t) (iblk m c 5 t) (iblk m c 6 t) t.val where
  h0 := b0 m c t d0
  h1 := b1 m c t d1
  h2 := b2 m c t d2
  h3 := b3 m c t d3
  h4 := b4 m c t
  h5 := b5 m c t
  h6 := b6 m c t

/-- What a block adds to each of the four sums, at a point of an image. -/
def term (q : Fin 4) (j : Fin 4) (P : Fin 17064) : EReal := match q with
  | 0 => ∑ k : Fin 80, Q.clsT (g0 m c) (g1 m c) (g4 m c) (g5 m c) (g6 m c) j P k
  | 1 => Q.iouT (g0 m c) (g2 m c) (g4 m c) (g6 m c) j P
  | 2 => Q.wT (g0 m c) (g4 m c) (g6 m c) j P
  | 3 => Q.ctrT (g0 m c) (g3 m c) (g4 m c) (g6 m c) j P

/-- What a block adds to each of the four sums. -/
def sums (c : Dev nD) (n : ℕ) (q : Fin 4) : EReal :=
  ∑ j : Fin 4, ∑ p : Fin 2048, if h : n * 2048 + p.val < 17064 then term m c q j ⟨_, h⟩ else 0

theorem sum4_eq (f : Fin 4 → EReal) : Img.sum4 (F := Ideal) f = ∑ j, f j := by
  rw [Fin.sum_univ_four]
  show (((Ideal.ofBits .f32 0x00000000#32 + f 0) + f 1) + f 2) + f 3 = _
  rw [Ideal.ofBits_zero_f32, zero_add]

/-- The sums of a block are the sums of its points' terms. -/
theorem blockSums (hx : ∀ c i, g1 m c i ≠ ⊥) : BlockSums m (sums m) := fun c t d0 d1 d2 d3 => by
  have H := holds m c t d0 d1 d2 d3
  have hn : t.val < 9 := t.2
  rw [coord_val]
  funext q
  match q with
  | 0 => exact (sum4_eq _).trans (Finset.sum_congr rfl fun j _ => Img.clsS_eq _ _ _ _ _ _ _ _ _ _ _ _ _ _ _ hn H j (hx c))
  | 1 => exact (sum4_eq _).trans (Finset.sum_congr rfl fun j _ => Img.iouS_eq _ _ _ _ _ _ _ _ _ _ _ _ _ _ _ hn H j)
  | 2 => exact (sum4_eq _).trans (Finset.sum_congr rfl fun j _ => Img.wS_eq _ _ _ _ _ _ _ _ _ _ _ _ _ _ _ hn H j)
  | 3 => exact (sum4_eq _).trans (Finset.sum_congr rfl fun j _ => Img.ctrS_eq _ _ _ _ _ _ _ _ _ _ _ _ _ _ _ hn H j)

/-- A sum after the last block is the sum over all images and points. -/
theorem part_eq (q : Fin 4) : part (F := Ideal) (sums m) c 9 q = ∑ j : Fin 4, ∑ P : Fin 17064, term m c q j P := by
  have h : ∀ n : ℕ, part (F := Ideal) (sums m) c n q = ∑ i ∈ Finset.range n, sums m c i q := fun n => by
    induction n with
    | zero => exact Ideal.ofBits_zero_f32
    | succ n ih =>
      rw [Finset.sum_range_succ, ← ih]; rfl
  rw [h, Finset.sum_range]
  unfold sums
  rw [Finset.sum_comm]
  exact Finset.sum_congr rfl fun j _ => Q.sum_blocks (term m c q j)

theorem inv_val : (Named.named (F := Ideal) κ "inv_n" (φ := .f32) 0x3444A383#32) = ((1 / 5460480 : ℝ) : EReal) :=
  IdealRules.named_const.ideal_named_scalar _ _ _ _ rfl

theorem lane0 (x0 x1 x2 x3 : EReal) : k0_pay2 (F := Ideal) x0 x1 x2 x3 (ix2 0 0) = Ideal.div x0 (Ideal.ofBits .f32 0x4AA6A400#32) := by
  pointwise [k0_pay2]
  rw [inv_val, show IntOp.cmpi .eq 0#32 1#32 = 0#1 from rfl, show IntOp.cmpi .eq 0#32 2#32 = 0#1 from rfl, ← Q.mean_eq]
  simp [Scalar.select]

theorem lane1 (x0 x1 x2 x3 : EReal) : k0_pay2 (F := Ideal) x0 x1 x2 x3 (ix2 0 1) = Ideal.div x1 (max x2 Q.eps) := by
  pointwise [k0_pay2]
  rw [show IntOp.cmpi .eq 1#32 0#32 = 0#1 from rfl, show IntOp.cmpi .eq 1#32 2#32 = 0#1 from rfl]
  simp [Scalar.select, Q.eps]

theorem lane2 (x0 x1 x2 x3 : EReal) : k0_pay2 (F := Ideal) x0 x1 x2 x3 (ix2 0 2) = x3 := by
  pointwise [k0_pay2]
  rw [show IntOp.cmpi .eq 2#32 0#32 = 0#1 from rfl, show IntOp.cmpi .eq 2#32 1#32 = 0#1 from rfl]
  simp [Scalar.select]

end Cert.Proof.KernelIdeal

end
-- ==== Proof.Take.lean ====
module

public import Idealize.ShloMosaic.Lib.ValueIdx
public import Idealize.ShloMosaic.Lib.Pointwise

@[expose] public section

noncomputable section

/-! Entries taken along the last axis, and reductions along the last axis, read at an index, at any sizes. -/

namespace Cert.Proof.Take

open Idealize.ShloMosaic

variable {α : Type}

/-- The dimension numbers of entries taken along the last axis of a matrix. -/
abbrev dims2 (A B N : Nat)
    (wf : GatherDims.WF ⟨2, ![A, N]⟩ ⟨3, ![A, B, 1]⟩ ⟨2, ![A, B]⟩ [] [1] [0] [1] [0] 2 ![1, 1]) :
    GatherDims ⟨2, ![A, N]⟩ ⟨3, ![A, B, 1]⟩ ⟨2, ![A, B]⟩ where
  offsetDims := []
  collapsedSliceDims := [1]
  operandBatchingDims := [0]
  startIndicesBatchingDims := [0]
  startIndexMap := [1]
  indexVectorDim := 2
  sliceSizes := ![1, 1]
  wf := wf

/-- An entry taken along the last axis of a matrix. -/
theorem gather2 {A B N : Nat}
    (wf : GatherDims.WF ⟨2, ![A, N]⟩ ⟨3, ![A, B, 1]⟩ ⟨2, ![A, B]⟩ [] [1] [0] [1] [0] 2 ![1, 1])
    (x : (⟨2, ![A, N]⟩ : Shape).Idx → α) (idx : IVec ⟨3, ![A, B, 1]⟩ 32) (a : Fin A) (b : Fin B) (k : Fin N)
    (hk : (idx (ix3 a b 0)).toInt.toNat = k.val) :
    Host.gather (dims2 A B N wf) x idx (ix2 a b) = x (ix2 a k) := by
  unfold Host.gather
  congr 1
  funext c
  refine Fin.ext ?_
  show (dims2 A B N wf).start (ix2 a b) idx c + (dims2 A B N wf).batchCoord (ix2 a b) c + (dims2 A B N wf).offCoord (ix2 a b) c = _
  have h01 : c = 0 ∨ c = 1 := by
    match c with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims2 A B N wf).startIndexMap from List.mem_singleton.mpr rfl)]
    have hsi : (dims2 A B N wf).siIdx (ix2 a b) ⟨List.idxOf (1 : Fin 2) (dims2 A B N wf).startIndexMap,
        List.idxOf_lt_length_iff.2 (List.mem_singleton.mpr rfl)⟩ = ix3 a b 0 := by
      funext d; refine Fin.ext ?_
      match d with
      | ⟨0, _⟩ => rfl
      | ⟨1, _⟩ => rfl
      | ⟨2, _⟩ => rfl
    rw [hsi, hk]
    show min k.val (N - 1) = k.val
    have := k.2
    omega

/-- The dimension numbers of entries taken along the last axis of a box. -/
abbrev dims3 (A B N : Nat)
    (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- An entry taken along the last axis of a box. -/
theorem gather3 {A B N : Nat}
    (wf : GatherDims.WF ⟨3, ![A, B, N]⟩ ⟨4, ![A, B, 1, 1]⟩ ⟨3, ![A, B, 1]⟩ [] [2] [0, 1] [2] [0, 1] 3 ![1, 1, 1])
    (x : (⟨3, ![A, B, N]⟩ : Shape).Idx → α) (idx : IVec ⟨4, ![A, B, 1, 1]⟩ 32) (a : Fin A) (b : Fin B) (k : Fin N)
    (hk : (idx (ix4 a b 0 0)).toInt.toNat = k.val) :
    Host.gather (dims3 A B N wf) x idx (ix3 a b 0) = x (ix3 a b k) := by
  unfold Host.gather
  congr 1
  funext c
  refine Fin.ext ?_
  show (dims3 A B N wf).start (ix3 a b 0) idx c + (dims3 A B N wf).batchCoord (ix3 a b 0) c + (dims3 A B N wf).offCoord (ix3 a b 0) c = _
  have h01 : c = 0 ∨ c = 1 ∨ c = 2 := by
    match c with
    | ⟨0, _⟩ => exact Or.inl rfl
    | ⟨1, _⟩ => exact Or.inr (Or.inl rfl)
    | ⟨2, _⟩ => exact Or.inr (Or.inr rfl)
  rcases h01 with rfl | rfl | rfl
  · have hm : (0 : Fin 3) ∈ (dims3 A B N wf).operandBatchingDims := by simp
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  · have hm : (1 : Fin 3) ∈ (dims3 A B N wf).operandBatchingDims := by simp
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (dims3 A B N wf).startIndexMap from List.mem_singleton.mpr rfl)]
    have hsi : (dims3 A B N wf).siIdx (ix3 a b 0) ⟨List.idxOf (2 : Fin 3) (dims3 A B N wf).startIndexMap,
        List.idxOf_lt_length_iff.2 (List.mem_singleton.mpr rfl)⟩ = ix4 a b 0 0 := by
      funext d; refine Fin.ext ?_
      match d with
      | ⟨0, _⟩ => rfl
      | ⟨1, _⟩ => rfl
      | ⟨2, _⟩ => rfl
      | ⟨3, _⟩ => rfl
    rw [hsi, hk]
    show min k.val (N - 1) = k.val
    have := k.2
    omega

/-- A reduction along the last axis of a box, at an index. -/
theorem reduce3 {A B N : Nat} {u : Shape} (f : α → α → α) [Std.Commutative f] [Std.Associative f]
    (x : (⟨3, ![A, B, N]⟩ : Shape).Idx → α) (init : u.Idx → α)
    (h' : (⟨3, ![A, B, N]⟩ : Shape).ReducesTo [2] ⟨2, ![A, B]⟩) (h : (⟨3, ![A, B, N]⟩ : Shape).Reduces [2] ⟨2, ![A, B]⟩)
    (hu : 0 < u.numel) (a : Fin A) (b : Fin B) :
    Host.reduce f x init h' hu (ix2 a b) = (Finset.univ : Finset (Fin N)).fold f (init (Shape.Idx.first hu)) (fun k => x (ix3 a b k)) := by
  rw [Host.reduce_eq_fold_single f x init h' h hu]
  congr 1
  funext k
  show x (h.lift (ix2 a b) k) = _
  congr 1
  funext c
  refine Fin.ext ?_
  rw [h.lift_val]
  match c with
  | ⟨0, _⟩ => rfl
  | ⟨1, _⟩ => rfl
  | ⟨2, _⟩ => rfl

/-- The same one rank up. -/
theorem reduce4 {A B C N : Nat} {u : Shape} (f : α → α → α) [Std.Commutative f] [Std.Associative f]
    (x : (⟨4, ![A, B, C, N]⟩ : Shape).Idx → α) (init : u.Idx → α)
    (h' : (⟨4, ![A, B, C, N]⟩ : Shape).ReducesTo [3] ⟨3, ![A, B, C]⟩) (h : (⟨4, ![A, B, C, N]⟩ : Shape).Reduces [3] ⟨3, ![A, B, C]⟩)
    (hu : 0 < u.numel) (a : Fin A) (b : Fin B) (c : Fin C) :
    Host.reduce f x init h' hu (ix3 a b c) = (Finset.univ : Finset (Fin N)).fold f (init (Shape.Idx.first hu)) (fun k => x (ix4 a b c k)) := by
  rw [Host.reduce_eq_fold_single f x init h' h hu]
  congr 1
  funext k
  show x (h.lift (ix3 a b c) k) = _
  congr 1
  funext d
  refine Fin.ext ?_
  rw [h.lift_val]
  match d with
  | ⟨0, _⟩ => rfl
  | ⟨1, _⟩ => rfl
  | ⟨2, _⟩ => rfl
  | ⟨3, _⟩ => rfl

end Cert.Proof.Take

end
-- ==== Proof.RefRead.lean ====
module

public import proofs.«01_k».proof.Proof.Gen.ReferenceIdeal.Run
public import proofs.«01_k».proof.Proof.Quant
public import proofs.«01_k».proof.Proof.Take

@[expose] public section

set_option maxRecDepth 16384

noncomputable section

/-! The reference's intermediate arrays read at an index. -/

namespace Cert.Proof.Ref

open Cert.ReferenceIdeal Cert.ReferenceIdeal.Value Cert.ReferenceIdeal.Gen
open Idealize.ShloMosaic Idealize.ShloMosaic.TcCoe Idealize.ShloMosaic.Tactic
open Cert.Proof
open scoped Classical

variable (W : Valuation τ sig (Elt Ideal))

/-- The arguments. -/
abbrev a0 : (⟨2, ![17064, 2]⟩ : Shape).Idx → EReal := W (Proc.devRef .tc main_arg0)
@[inherit_doc a0] abbrev a1 : (⟨3, ![4, 17064, 80]⟩ : Shape).Idx → EReal := W (Proc.devRef .tc main_arg1)
@[inherit_doc a0] abbrev a2 : (⟨3, ![4, 17064, 4]⟩ : Shape).Idx → EReal := W (Proc.devRef .tc main_arg2)
@[inherit_doc a0] abbrev a3 : (⟨2, ![4, 17064]⟩ : Shape).Idx → EReal := W (Proc.devRef .tc main_arg3)
@[inherit_doc a0] abbrev a4 : (⟨3, ![4, 50, 4]⟩ : Shape).Idx → EReal := W (Proc.devRef .tc main_arg4)
@[inherit_doc a0] abbrev a5 : (⟨2, ![4, 50]⟩ : Shape).Idx → BitVec 32 := W (Proc.devRef .tc main_arg5)
@[inherit_doc a0] abbrev a6 : (⟨2, ![4, 50]⟩ : Shape).Idx → EReal := W (Proc.devRef .tc main_arg6)

variable (j : Fin 4) (P : Fin 17064)

theorem r25 (g : Fin 50) : res_main_v25 W (ix3 j P g) = a0 W (ix2 P 0) - a4 W (ix3 j g 0) := by
  pointwise [res_main_v25, res_main_v16]
theorem r31 (g : Fin 50) : res_main_v31 W (ix3 j P g) = a0 W (ix2 P 1) - a4 W (ix3 j g 1) := by
  pointwise [res_main_v31, res_main_v19]
theorem r37 (g : Fin 50) : res_main_v37 W (ix3 j P g) = a4 W (ix3 j g 2) - a0 W (ix2 P 0) := by
  pointwise [res_main_v37, res_main_v16]
theorem r43 (g : Fin 50) : res_main_v43 W (ix3 j P g) = a4 W (ix3 j g 3) - a0 W (ix2 P 1) := by
  pointwise [res_main_v43, res_main_v19]
theorem r46 (g : Fin 50) : res_main_v46 W (ix3 j P g) =
    min (min (a0 W (ix2 P 0) - a4 W (ix3 j g 0)) (a0 W (ix2 P 1) - a4 W (ix3 j g 1)))
      (min (a4 W (ix3 j g 2) - a0 W (ix2 P 0)) (a4 W (ix3 j g 3) - a0 W (ix2 P 1))) := by
  rw [← r25, ← r31, ← r37, ← r43]
  unfold res_main_v46
  generalize res_main_v25 W = v25
  generalize res_main_v31 W = v31
  generalize res_main_v37 W = v37
  generalize res_main_v43 W = v43
  rfl

theorem lo_eq (P : ℕ) : (if P < 12800 then Ideal.ofBits .f32 3212836864#32 else if P - 12800 < 3200 then Ideal.ofBits .f32 1115684864#32
    else if P - 12800 - 3200 < 800 then Ideal.ofBits .f32 1124073472#32 else if P - 12800 - 3200 - 800 < 208 then Ideal.ofBits .f32 1132462080#32
    else Ideal.ofBits .f32 1140850688#32) = Q.loQ P := by
  unfold Q.loQ
  split_ifs <;> first | rfl | omega

theorem hi_eq (P : ℕ) : (if P < 12800 then Ideal.ofBits .f32 1115684864#32 else if P - 12800 < 3200 then Ideal.ofBits .f32 1124073472#32
    else if P - 12800 - 3200 < 800 then Ideal.ofBits .f32 1132462080#32 else if P - 12800 - 3200 - 800 < 208 then Ideal.ofBits .f32 1140850688#32
    else Ideal.ofBits .f32 1232348160#32) = Q.hiQ P := by
  unfold Q.hiQ
  split_ifs <;> first | rfl | omega

theorem sel_and3 (p q r : Prop) [Decidable p] [Decidable q] [Decidable r] (x y : EReal) :
    (if p then Scalar.select (IntOp.andi (BitVec.ofBool (decide q)) (BitVec.ofBool (decide r))) x y else y) = if p ∧ q ∧ r then x else y := by
  by_cases hp : p <;> by_cases hq : q <;> by_cases hr : r <;> simp [hp, hq, hr, Scalar.select, IntOp.andi]

theorem r60 (g : Fin 50) : res_main_v60 W (ix3 j P g) = Q.areaQ (a0 W) (a4 W) (a6 W) j P g := by
  pointwise [res_main_v60]
  simp only [dite_eq_ite, lo_eq, hi_eq, r46, r25, r31, r37, r43]
  have hi : id (constant (F := Ideal) S_ .f32 1232348160#32) ix0 = Q.INF := rfl
  rw [hi, sel_and3]
  unfold Q.areaQ Q.areaS
  congr

theorem red3 : S4x17064x50.Reduces [2] S4x17064 := by
  refine ⟨rfl, by decide, fun b => ?_⟩
  fin_cases b <;> rfl

theorem r61 : res_main_v61 W (ix2 j P) = Q.mnF (Q.areaQ (a0 W) (a4 W) (a6 W) j P) := by
  unfold res_main_v61
  have h60 := fun g => r60 W j P g
  generalize res_main_v60 W = v60 at h60 ⊢
  have e := Take.reduce3 (A := 4) (B := 17064) (N := 50) (FloatOps.minimumf (F := Ideal) (φ := .f32)) v60 (constant (F := Ideal) S_ .f32 0x7F800000#32)
    reducesTo_S4x17064x50_S4x17064_d2 red3 h_S_ j P
  refine Eq.trans e ?_
  unfold Q.mnF
  rw [show (fun k => v60 (ix3 j P k)) = Q.areaQ (a0 W) (a4 W) (a6 W) j P from funext h60]
  rfl

theorem r68 : res_main_v68 W (ix2 j P) = BitVec.ofNat 32 (Q.boxQ (a0 W) (a4 W) (a6 W) j P).val := by
  unfold res_main_v68
  have h60 := fun g => r60 W j P g
  have h61 := r61 W j P
  generalize res_main_v60 W = v60 at h60 ⊢
  generalize res_main_v61 W = v61 at h61 ⊢
  refine (Take.reduce3 (A := 4) (B := 17064) (N := 50) IntOp.minsi _ _ _ red3 h_S_ j P).trans ?_
  refine Eq.trans ?_ (Q.fold_first (Q.areaQ (a0 W) (a4 W) (a6 W) j P) 49 (by omega))
  congr 1
  funext g
  pointwise
  rw [h60, h61]
  rfl

end Cert.Proof.Ref

end
-- ==== Proof.RefTake.lean ====
module

public import proofs.«01_k».proof.Proof.RefRead

@[expose] public section

set_option maxRecDepth 16384

noncomputable section

/-! The reference's labels, distances and losses read at an index. -/

namespace Cert.Proof.Ref

open Cert.ReferenceIdeal Cert.ReferenceIdeal.Value Cert.ReferenceIdeal.Gen
open Idealize.ShloMosaic Idealize.ShloMosaic.TcCoe Idealize.ShloMosaic.Tactic
open Cert.Proof
open scoped Classical

variable (W : Valuation τ sig (Elt Ideal)) (j : Fin 4) (P : Fin 17064)

theorem wrap (k : Fin 50) : Scalar.select (IntOp.cmpi .slt (BitVec.ofNat 32 k.val) 0#32) (IntOp.addi (BitVec.ofNat 32 k.val) 50#32) (BitVec.ofNat 32 k.val)
    = BitVec.ofNat 32 k.val := by
  revert k; decide

theorem inside (k : Fin 50) : IntOp.andi (IntOp.cmpi .sge (BitVec.ofNat 32 k.val) 0#32) (IntOp.cmpi .sle (BitVec.ofNat 32 k.val) 49#32) = 1#1 := by
  revert k; decide

theorem asNat (k : Fin 50) : (BitVec.ofNat 32 k.val).toInt.toNat = k.val := by
  revert k; decide

theorem rc3 : res_main_call3_v5 W (ix3 j P 0) = BitVec.ofNat 32 (Q.boxQ (a0 W) (a4 W) (a6 W) j P).val := by
  have h := r68 W j P
  pointwise [res_main_call3_v5]
  rw [h, wrap]

theorem redL : S4x17064x1.Reduces [2] S4x17064 := by
  refine ⟨rfl, by decide, fun b => ?_⟩
  fin_cases b <;> rfl

theorem redD : S4x17064x1x1.Reduces [3] S4x17064x1 := by
  refine ⟨rfl, by decide, fun b => ?_⟩
  fin_cases b <;> rfl

/-- A label taken at a box. -/
theorem takeL (idx : IVec S4x17064x1 32) (x : IVec S4x50 32) (k : Fin 50) (hk : idx (ix3 j P 0) = BitVec.ofNat 32 k.val) :
    select (Host.reduce IntOp.andi (andi (cmpi .sge idx (broadcastInDim S4x17064x1 ![] bcast_S_S4x17064x1 (constantI S_ 32 0#32))) (cmpi .sle idx (broadcastInDim S4x17064x1 ![0, 1, 2] bcast_S1x1x1_S4x17064x1_0_1_2 (broadcastInDim S1x1x1 ![2] bcast_S1_S1x1x1_2 (constantI S1 32 49#32))))) (constantI S_ 1 1#1) reducesTo_S4x17064x1_S4x17064_d2 h_S_) (Host.gather gather_S4x50_S4x17064x1_S4x17064_n_1_0_0_1_2_11 x idx) (broadcastInDim S4x17064 ![] bcast_S_S4x17064 (constantI S_ 32 2147483648#32)) (ix2 j P)
      = x (ix2 j k) := by
  have e := Take.reduce3 (A := 4) (B := 17064) (N := 1) (IntOp.andi (w := 1))
    (andi (cmpi .sge idx (broadcastInDim S4x17064x1 ![] bcast_S_S4x17064x1 (constantI S_ 32 0#32))) (cmpi .sle idx (broadcastInDim S4x17064x1 ![0, 1, 2] bcast_S1x1x1_S4x17064x1_0_1_2 (broadcastInDim S1x1x1 ![2] bcast_S1_S1x1x1_2 (constantI S1 32 49#32)))))
    (constantI S_ 1 1#1) reducesTo_S4x17064x1_S4x17064_d2 redL h_S_ j P
  have g := Take.gather2 (A := 4) (B := 17064) (N := 50) gather_S4x50_S4x17064x1_S4x17064_n_1_0_0_1_2_11_wf x idx j P k (by rw [hk, asNat])
  generalize Host.reduce (IntOp.andi (w := 1)) _ _ _ _ = M at e ⊢
  have hM : M (ix2 j P) = 1#1 := by
    rw [e, Finset.univ_unique, Finset.fold_singleton]
    show IntOp.andi (andi _ _ (ix3 j P 0)) _ = 1#1
    pointwise
    rw [hk, inside]
    decide
  rw [ValueIdx.select_apply, hM, ValueIdx.select_one]
  exact g

/-- A distance taken at a box. -/
theorem takeD (idx : IVec S4x17064x1x1 32) (x : FVec Ideal S4x17064x50 .f32) (k : Fin 50) (hk : idx (ix4 j P 0 0) = BitVec.ofNat 32 k.val) :
    select (Host.reduce IntOp.andi (andi (cmpi .sge idx (broadcastInDim S4x17064x1x1 ![] bcast_S_S4x17064x1x1 (constantI S_ 32 0#32))) (cmpi .sle idx (broadcastInDim S4x17064x1x1 ![0, 1, 2, 3] bcast_S1x1x1x1_S4x17064x1x1_0_1_2_3 (broadcastInDim S1x1x1x1 ![3] bcast_S1_S1x1x1x1_3 (constantI S1 32 49#32))))) (constantI S_ 1 1#1) reducesTo_S4x17064x1x1_S4x17064x1_d3 h_S_) (Host.gather gather_S4x17064x50_S4x17064x1x1_S4x17064x1_n_2_01_01_2_3_111 x idx) (broadcastInDim S4x17064x1 ![] bcast_S_S4x17064x1 (constant (F := Ideal) S_ .f32 0x7FC00000#32)) (ix3 j P 0)
      = x (ix3 j P k) := by
  have e := Take.reduce4 (A := 4) (B := 17064) (C := 1) (N := 1) (IntOp.andi (w := 1))
    (andi (cmpi .sge idx (broadcastInDim S4x17064x1x1 ![] bcast_S_S4x17064x1x1 (constantI S_ 32 0#32))) (cmpi .sle idx (broadcastInDim S4x17064x1x1 ![0, 1, 2, 3] bcast_S1x1x1x1_S4x17064x1x1_0_1_2_3 (broadcastInDim S1x1x1x1 ![3] bcast_S1_S1x1x1x1_3 (constantI S1 32 49#32)))))
    (constantI S_ 1 1#1) reducesTo_S4x17064x1x1_S4x17064x1_d3 redD h_S_ j P 0
  have g := Take.gather3 (A := 4) (B := 17064) (N := 50) gather_S4x17064x50_S4x17064x1x1_S4x17064x1_n_2_01_01_2_3_111_wf x idx j P k (by rw [hk, asNat])
  generalize Host.reduce (IntOp.andi (w := 1)) _ _ _ _ = M at e ⊢
  have hM : M (ix3 j P 0) = 1#1 := by
    rw [e, Finset.univ_unique, Finset.fold_singleton]
    show IntOp.andi (andi _ _ (ix4 j P 0 0)) _ = 1#1
    pointwise
    rw [hk, inside]
    decide
  rw [ValueIdx.select_apply, hM, ValueIdx.select_one]
  exact g

/-- A label, or nought where there is no box. -/
theorem label1 (v61 : FVec Ideal S4x17064 .f32) (T : IVec S4x17064 32) :
    select (cmpf .oge v61 (broadcastInDim S4x17064 ![] bcast_S_S4x17064 (constant (F := Ideal) S_ .f32 0x49742400#32))) (broadcastInDim S4x17064 ![] bcast_S_S4x17064 (id (constantI S_ 32 0#32))) T (ix2 j P)
      = if v61 (ix2 j P) < Q.INF then T (ix2 j P) else 0#32 := by
  rw [ValueIdx.select_apply, ValueIdx.cmpf_apply]
  show Scalar.select (Ideal.cmp .oge (v61 (ix2 j P)) Q.INF) (0#32) _ = _
  generalize T (ix2 j P) = t
  generalize v61 (ix2 j P) = v
  by_cases h : v < Q.INF
  · rw [if_pos h]
    simp [Ideal.cmp, Scalar.select, not_le.mpr h]
  · rw [if_neg h]
    simp [Ideal.cmp, Scalar.select, not_lt.mp h]

/-- The label of a point: that of its box, nought where there is none. -/
theorem r72 : res_main_v72 W (ix2 j P) = if Q.posQ (a0 W) (a4 W) (a6 W) j P then a5 W (ix2 j (Q.boxQ (a0 W) (a4 W) (a6 W) j P)) else 0#32 := by
  have h61 := r61 W j P
  have t := takeL j P (res_main_call3_v5 W) (W (Proc.devRef .tc main_arg5)) _ (rc3 W j P)
  refine (label1 j P (res_main_v61 W) _).trans ?_
  rw [t, h61]
  by_cases h : Q.mnF (Q.areaQ (a0 W) (a4 W) (a6 W) j P) < Q.INF
  · rw [if_pos h, if_pos (show Q.posQ (a0 W) (a4 W) (a6 W) j P from h)]
  · rw [if_neg h, if_neg (show ¬ Q.posQ (a0 W) (a4 W) (a6 W) j P from h)]

variable (hl : ∀ i, 1 ≤ (a5 W i).toInt)

include hl in
/-- Whether a point has a box. -/
theorem r74 : res_main_v74 W (ix2 j P) = BitVec.ofBool (decide (Q.posQ (a0 W) (a4 W) (a6 W) j P)) := by
  have h := r72 W j P
  unfold res_main_v74
  generalize res_main_v72 W = v72 at h ⊢
  show IntOp.cmpi .sgt (v72 (ix2 j P)) 0#32 = _
  rw [h]
  by_cases hp : Q.posQ (a0 W) (a4 W) (a6 W) j P
  · have := hl (ix2 j (Q.boxQ (a0 W) (a4 W) (a6 W) j P))
    rw [if_pos hp]
    generalize a5 W (ix2 j (Q.boxQ (a0 W) (a4 W) (a6 W) j P)) = l at this ⊢
    have h0 : (0#32).toInt = 0 := by decide
    have h1 : BitVec.slt 0#32 l = true := by simp only [BitVec.slt, h0, decide_eq_true_eq]; omega
    simp [IntOp.cmpi, h1, hp]
  · rw [if_neg hp]; simp [hp]; decide

include hl in
theorem r75 : res_main_v75 W (ix2 j P) = if Q.posQ (a0 W) (a4 W) (a6 W) j P then (1 : EReal) else 0 := by
  have h := r74 W j P hl
  unfold res_main_v75
  generalize res_main_v74 W = v at h ⊢
  show FloatOps.uitofp (F := Ideal) .f32 (v (ix2 j P)) = _
  rw [h]
  by_cases hp : Q.posQ (a0 W) (a4 W) (a6 W) j P <;> simp [hp, FloatOps.uitofp]

theorem sel_bit (p : Prop) [Decidable p] {α : Type} (x y : α) : Scalar.select (BitVec.ofBool (decide p)) x y = if p then x else y := by
  by_cases hp : p <;> simp [hp, Scalar.select]

theorem rc5 : res_main_call5_v5 W (ix4 j P 0 0) = BitVec.ofNat 32 (Q.boxQ (a0 W) (a4 W) (a6 W) j P).val := by
  have h := r68 W j P
  pointwise [res_main_call5_v5, res_main_v96]
  rw [h, wrap]
theorem rc7 : res_main_call7_v5 W (ix4 j P 0 0) = BitVec.ofNat 32 (Q.boxQ (a0 W) (a4 W) (a6 W) j P).val := by
  have h := r68 W j P
  pointwise [res_main_call7_v5, res_main_v100]
  rw [h, wrap]
theorem rc9 : res_main_call9_v5 W (ix4 j P 0 0) = BitVec.ofNat 32 (Q.boxQ (a0 W) (a4 W) (a6 W) j P).val := by
  have h := r68 W j P
  pointwise [res_main_call9_v5, res_main_v104]
  rw [h, wrap]
theorem rc11 : res_main_call11_v5 W (ix4 j P 0 0) = BitVec.ofNat 32 (Q.boxQ (a0 W) (a4 W) (a6 W) j P).val := by
  have h := r68 W j P
  pointwise [res_main_call11_v5, res_main_v108]
  rw [h, wrap]

/-- A distance, or one where there is no box. -/
theorem pick1 (v : IVec S4x17064 1) (T : FVec Ideal S4x17064x1 .f32) (p : Prop) [Decidable p] (y : EReal)
    (hv : v (ix2 j P) = BitVec.ofBool (decide p)) (hT : T (ix3 j P 0) = y) :
    select v (shapeCast S4x17064 T shapeCasts_S4x17064x1_S4x17064) (broadcastInDim S4x17064 ![] bcast_S_S4x17064 (id (constant (F := Ideal) S_ .f32 0x3F800000#32))) (ix2 j P)
      = if p then y else 1 := by
  pointwise
  rw [hv, hT, sel_bit]
  show (if p then y else Ideal.ofBits .f32 0x3F800000#32) = _
  rw [Ideal.ofBits_one_f32]

include hl in
theorem r99 : res_main_v99 W (ix2 j P) = Q.tlQ (a0 W) (a4 W) (a6 W) j P :=
  pick1 j P _ _ _ _ (r74 W j P hl) ((takeD j P _ (res_main_v25 W) _ (rc5 W j P)).trans (r25 W j P _))
include hl in
theorem r103 : res_main_v103 W (ix2 j P) = Q.ttQ (a0 W) (a4 W) (a6 W) j P :=
  pick1 j P _ _ _ _ (r74 W j P hl) ((takeD j P _ (res_main_v31 W) _ (rc7 W j P)).trans (r31 W j P _))
include hl in
theorem r107 : res_main_v107 W (ix2 j P) = Q.trQ (a0 W) (a4 W) (a6 W) j P :=
  pick1 j P _ _ _ _ (r74 W j P hl) ((takeD j P _ (res_main_v37 W) _ (rc9 W j P)).trans (r37 W j P _))
include hl in
theorem r111 : res_main_v111 W (ix2 j P) = Q.tbQ (a0 W) (a4 W) (a6 W) j P :=
  pick1 j P _ _ _ _ (r74 W j P hl) ((takeD j P _ (res_main_v43 W) _ (rc11 W j P)).trans (r43 W j P _))

/-- The centre target of distances. -/
theorem ctrL (v1 v2 v3 v4 : FVec Ideal S4x17064 .f32) :
    mulf (Host.divf (minimumf v1 v3) (maximumf (maximumf v1 v3) (broadcastInDim S4x17064 ![] bcast_S_S4x17064 (constant (F := Ideal) S_ .f32 0x358637BD#32)))) (Host.divf (minimumf v2 v4) (maximumf (maximumf v2 v4) (broadcastInDim S4x17064 ![] bcast_S_S4x17064 (constant (F := Ideal) S_ .f32 0x358637BD#32)))) (ix2 j P)
      = Q.ctrS (v1 (ix2 j P)) (v2 (ix2 j P)) (v3 (ix2 j P)) (v4 (ix2 j P)) := by
  pointwise [Q.ctrS, Q.eps]

include hl in
theorem r122 : res_main_v122 W (ix2 j P) = Q.ctrQ (a0 W) (a4 W) (a6 W) j P := by
  unfold Q.ctrQ
  rw [← r99 W j P hl, ← r103 W j P hl, ← r107 W j P hl, ← r111 W j P hl]
  exact ctrL j P (res_main_v99 W) (res_main_v103 W) (res_main_v107 W) (res_main_v111 W)

/-- A predicted distance, or one where there is no box. -/
theorem pick2 (v : IVec S4x17064 1) (T : FVec Ideal S4x17064 .f32) (p : Prop) [Decidable p] (y : EReal)
    (hv : v (ix2 j P) = BitVec.ofBool (decide p)) (hT : T (ix2 j P) = y) :
    select v (maximumf T (broadcastInDim S4x17064 ![] bcast_S_S4x17064 (constant (F := Ideal) S_ .f32 0x00000000#32))) (broadcastInDim S4x17064 ![] bcast_S_S4x17064 (id (constant (F := Ideal) S_ .f32 0x3F800000#32))) (ix2 j P)
      = if p then max y 0 else 1 := by
  pointwise
  rw [hv, hT, sel_bit]
  show (if p then _ else Ideal.ofBits .f32 0x3F800000#32) = _
  rw [Ideal.ofBits_one_f32]

include hl in
theorem r127 : res_main_v127 W (ix2 j P) = Q.prQ (a0 W) (a2 W) (a4 W) (a6 W) j P 0 :=
  pick2 j P _ _ _ _ (r74 W j P hl) (by pointwise)
include hl in
theorem r132 : res_main_v132 W (ix2 j P) = Q.prQ (a0 W) (a2 W) (a4 W) (a6 W) j P 1 :=
  pick2 j P _ _ _ _ (r74 W j P hl) (by pointwise)
include hl in
theorem r137 : res_main_v137 W (ix2 j P) = Q.prQ (a0 W) (a2 W) (a4 W) (a6 W) j P 2 :=
  pick2 j P _ _ _ _ (r74 W j P hl) (by pointwise)
include hl in
theorem r142 : res_main_v142 W (ix2 j P) = Q.prQ (a0 W) (a2 W) (a4 W) (a6 W) j P 3 :=
  pick2 j P _ _ _ _ (r74 W j P hl) (by pointwise)

/-- A product with a bit's number. -/
theorem mask1 (v1 v2 : FVec Ideal S4x17064 .f32) (p : Prop) [Decidable p] (y : EReal) (h1 : v1 (ix2 j P) = y) (h2 : v2 (ix2 j P) = if p then (1 : EReal) else 0) :
    mulf v1 v2 (ix2 j P) = if p then y else 0 := by
  rw [ValueIdx.mulf_apply, h1, h2]
  split <;> simp

include hl in
theorem r167 : res_main_v167 W (ix2 j P) = Q.wT (a0 W) (a4 W) (a6 W) j P :=
  mask1 j P (res_main_v122 W) (res_main_v75 W) _ _ (r122 W j P hl) (r75 W j P hl)

end Cert.Proof.Ref

end
-- ==== Proof.RefValue.lean ====
module

public import proofs.«01_k».proof.Proof.RefTake

@[expose] public section

set_option maxRecDepth 16384

noncomputable section

/-! The reference's three results as sums over the points. -/

namespace Cert.Proof.Ref

open Cert.ReferenceIdeal Cert.ReferenceIdeal.Value Cert.ReferenceIdeal.Gen
open Idealize.ShloMosaic Idealize.ShloMosaic.TcCoe Idealize.ShloMosaic.Tactic
open Cert.Proof
open scoped Classical

theorem div_congr {a b c d : EReal} (h : a = b) (h' : c = d) : Ideal.div a c = Ideal.div b d := by rw [h, h']

theorem max_congr {a b c : EReal} (h : a = b) : max a c = max b c := by rw [h]

/-- A comparison of a label with a class, as a number. -/
theorem labelBit (l : BitVec 32) (c : ℕ) :
    FloatOps.uitofp (F := Ideal) .f32 (IntOp.cmpi .eq l (IntOp.addi 1#32 (BitVec.ofNat 32 c))) = if l = BitVec.ofNat 32 (c + 1) then (1 : EReal) else 0 := by
  have e : IntOp.addi 1#32 (BitVec.ofNat 32 c) = BitVec.ofNat 32 (c + 1) := by
    rw [IntOp.addi, BitVec.add_comm, BitVec.ofNat_add]
  rw [e]
  have b : ∀ x y : BitVec 32, IntOp.cmpi .eq x y = BitVec.ofBool (decide (x = y)) := fun _ _ => rfl
  rw [b]
  show (((BitVec.ofBool (decide (l = BitVec.ofNat 32 (c + 1)))).toNat : ℝ) : EReal) = _
  by_cases h : l = BitVec.ofNat 32 (c + 1)
  · simp [h]
  · simp [h]

/-- The centre loss as a sum. -/
theorem ctrSum (c t w : FVec Ideal S4x17064 .f32) (i : S_.Idx) :
    Host.reduceAdd (mulf (addf (subf (maximumf c (broadcastInDim S4x17064 ![] bcast_S_S4x17064 (constant (F := Ideal) S_ .f32 0x00000000#32))) (mulf c t)) (Host.log1p (Host.exp (Host.negf (Host.absf c))))) w) (constant (F := Ideal) S_ .f32 0x00000000#32) reducesTo_S4x17064_S_d0_1 h_S_ i
      = ∑ j : Fin 4, ∑ P : Fin 17064, Q.bceS (c (ix2 j P)) (t (ix2 j P)) * w (ix2 j P) := by
  obtain rfl : i = ix0 := Subsingleton.elim _ _
  pointwise [Q.bceS, Q.spS]
  rfl

/-- The class loss as a sum. -/
theorem clsSum (x : FVec Ideal S4x17064x80 .f32) (l : IVec S4x17064 32) (i : S_.Idx) :
    Host.divf (Host.reduceAdd (addf (subf (maximumf x (broadcastInDim S4x17064x80 ![] bcast_S_S4x17064x80 (constant (F := Ideal) S_ .f32 0x00000000#32))) (mulf x (uitofp .f32 (cmpi .eq (broadcastInDim S4x17064x80 ![0, 1, 2] bcast_S4x17064x1_S4x17064x80_0_1_2 (broadcastInDim S4x17064x1 ![0, 1] bcast_S4x17064_S4x17064x1_0_1 l)) (broadcastInDim S4x17064x80 ![0, 1, 2] bcast_S1x1x80_S4x17064x80_0_1_2 (broadcastInDim S1x1x80 ![2] bcast_S80_S1x1x80_2 (addi (broadcastInDim S80 ![] bcast_S_S80 (constantI S_ 32 1#32)) (iotaInDim S80 32 0)))))))) (Host.log1p (Host.exp (Host.negf (Host.absf x))))) (constant (F := Ideal) S_ .f32 0x00000000#32) reducesTo_S4x17064x80_S_d0_1_2 h_S_) (constant (F := Ideal) S_ .f32 0x4AA6A400#32) i
      = Ideal.div (∑ j : Fin 4, ∑ P : Fin 17064, ∑ c : Fin 80, Q.bceS (x (ix3 j P c)) (if l (ix2 j P) = BitVec.ofNat 32 (c.val + 1) then 1 else 0)) (Ideal.ofBits .f32 0x4AA6A400#32) := by
  obtain rfl : i = ix0 := Subsingleton.elim _ _
  pointwise [Q.bceS, Q.spS]
  refine div_congr (Finset.sum_congr rfl fun j _ => Finset.sum_congr rfl fun P _ => Finset.sum_congr rfl fun c _ => ?_) rfl
  rw [labelBit]
  rfl

/-- The box loss as a quotient of sums. -/
theorem regSum (i1 l t r b pl pt pr pb w : FVec Ideal S4x17064 .f32) (i : S_.Idx) :
    Host.divf (Host.reduceAdd (mulf (Host.negf (Host.log (maximumf (Host.divf (addf i1 (broadcastInDim S4x17064 ![] bcast_S_S4x17064 (constant (F := Ideal) S_ .f32 0x3F800000#32))) (addf (subf (addf (mulf (addf l r) (addf t b)) (mulf (addf pl pr) (addf pt pb))) i1) (broadcastInDim S4x17064 ![] bcast_S_S4x17064 (constant (F := Ideal) S_ .f32 0x3F800000#32)))) (broadcastInDim S4x17064 ![] bcast_S_S4x17064 (constant (F := Ideal) S_ .f32 0x358637BD#32))))) w) (constant (F := Ideal) S_ .f32 0x00000000#32) reducesTo_S4x17064_S_d0_1 h_S_) (maximumf (Host.reduceAdd w (constant (F := Ideal) S_ .f32 0x00000000#32) reducesTo_S4x17064_S_d0_1 h_S_) (constant (F := Ideal) S_ .f32 0x358637BD#32)) i
      = Ideal.div (∑ j : Fin 4, ∑ P : Fin 17064, (- Ideal.log (max (Ideal.div (i1 (ix2 j P) + 1) ((l (ix2 j P) + r (ix2 j P)) * (t (ix2 j P) + b (ix2 j P)) + (pl (ix2 j P) + pr (ix2 j P)) * (pt (ix2 j P) + pb (ix2 j P)) - i1 (ix2 j P) + 1)) Q.eps)) * w (ix2 j P))
        (max (∑ j : Fin 4, ∑ P : Fin 17064, w (ix2 j P)) Q.eps) := by
  obtain rfl : i = ix0 := Subsingleton.elim _ _
  pointwise [Q.eps]

variable (W : Valuation τ sig (Elt Ideal))
variable (hl : ∀ i, 1 ≤ (a5 W i).toInt)

theorem bceT (p : Prop) [Decidable p] (y z w : EReal) (hw : w = if p then (1 : EReal) else 0) : Q.bceS y z * w = if p then Q.bceS y z else 0 := by
  rw [hw]; split <;> simp

/-- The reference's class loss. -/
theorem cls_eq : Host.divf (F := Ideal) (Host.reduceAdd (addf (subf (maximumf (W (Proc.devRef .tc main_arg1)) (broadcastInDim S4x17064x80 ![] bcast_S_S4x17064x80 (constant S_ .f32 0x00000000#32))) (mulf (W (Proc.devRef .tc main_arg1)) (uitofp .f32 (cmpi .eq (broadcastInDim S4x17064x80 ![0, 1, 2] bcast_S4x17064x1_S4x17064x80_0_1_2 (broadcastInDim S4x17064x1 ![0, 1] bcast_S4x17064_S4x17064x1_0_1 (res_main_v72 W))) (broadcastInDim S4x17064x80 ![0, 1, 2] bcast_S1x1x80_S4x17064x80_0_1_2 (broadcastInDim S1x1x80 ![2] bcast_S80_S1x1x80_2 (addi (broadcastInDim S80 ![] bcast_S_S80 (constantI S_ 32 1#32)) (iotaInDim S80 32 0)))))))) (Host.log1p (Host.exp (Host.negf (Host.absf (W (Proc.devRef .tc main_arg1))))))) (constant S_ .f32 0x00000000#32) reducesTo_S4x17064x80_S_d0_1_2 h_S_) (constant S_ .f32 0x4AA6A400#32)
      = (fun _ => Ideal.div (∑ j : Fin 4, ∑ P : Fin 17064, ∑ c : Fin 80, Q.clsT (a0 W) (a1 W) (a4 W) (a5 W) (a6 W) j P c) (Ideal.ofBits .f32 0x4AA6A400#32) : FVec Ideal S_ .f32) := by
  funext i
  refine (clsSum (a1 W) (res_main_v72 W) i).trans ?_
  refine div_congr (Finset.sum_congr rfl fun j _ => Finset.sum_congr rfl fun P _ => Finset.sum_congr rfl fun c _ => ?_) rfl
  rw [r72 W j P]
  unfold Q.clsT Q.ohQ
  refine congrArg (Q.bceS _) ?_
  by_cases h : Q.posQ (a0 W) (a4 W) (a6 W) j P
  · rw [if_pos h]; simp only [h, true_and]
  · rw [if_neg h]
    rw [if_neg (fun e => ?_), if_neg (fun e => h e.1)]
    have := congrArg BitVec.toNat e
    rw [BitVec.toNat_ofNat, BitVec.toNat_ofNat] at this
    have := c.2
    omega

include hl in
/-- The reference's centre loss. -/
theorem ctr_eq : Host.reduceAdd (mulf (addf (subf (maximumf (W (Proc.devRef .tc main_arg3)) (broadcastInDim S4x17064 ![] bcast_S_S4x17064 (constant S_ .f32 0x00000000#32))) (mulf (W (Proc.devRef .tc main_arg3)) (res_main_v122 W))) (Host.log1p (Host.exp (Host.negf (Host.absf (W (Proc.devRef .tc main_arg3))))))) (res_main_v75 W)) (constant S_ .f32 0x00000000#32) reducesTo_S4x17064_S_d0_1 h_S_
      = (fun _ => ∑ j : Fin 4, ∑ P : Fin 17064, Q.ctrT (a0 W) (a3 W) (a4 W) (a6 W) j P : FVec Ideal S_ .f32) := by
  funext i
  refine (ctrSum (a3 W) (res_main_v122 W) (res_main_v75 W) i).trans ?_
  refine Finset.sum_congr rfl fun j _ => Finset.sum_congr rfl fun P _ => ?_
  rw [r122 W j P hl]
  exact bceT _ _ _ _ (r75 W j P hl)

theorem r155 (j : Fin 4) (P : Fin 17064) (l t r b pl pt pr pb : FVec Ideal S4x17064 .f32) :
    mulf (addf (minimumf pl l) (minimumf pr r)) (addf (minimumf pt t) (minimumf pb b)) (ix2 j P)
      = (min (pl (ix2 j P)) (l (ix2 j P)) + min (pr (ix2 j P)) (r (ix2 j P))) * (min (pt (ix2 j P)) (t (ix2 j P)) + min (pb (ix2 j P)) (b (ix2 j P))) := by
  pointwise

include hl in
/-- The reference's box loss. -/
theorem reg_eq : Host.divf (Host.reduceAdd (mulf (Host.negf (Host.log (maximumf (Host.divf (addf (res_main_v155 W) (broadcastInDim S4x17064 ![] bcast_S_S4x17064 (constant S_ .f32 0x3F800000#32))) (addf (subf (addf (mulf (addf (res_main_v99 W) (res_main_v107 W)) (addf (res_main_v103 W) (res_main_v111 W))) (mulf (addf (res_main_v127 W) (res_main_v137 W)) (addf (res_main_v132 W) (res_main_v142 W)))) (res_main_v155 W)) (broadcastInDim S4x17064 ![] bcast_S_S4x17064 (constant S_ .f32 0x3F800000#32)))) (broadcastInDim S4x17064 ![] bcast_S_S4x17064 (constant S_ .f32 0x358637BD#32))))) (res_main_v167 W)) (constant S_ .f32 0x00000000#32) reducesTo_S4x17064_S_d0_1 h_S_) (maximumf (Host.reduceAdd (res_main_v167 W) (constant S_ .f32 0x00000000#32) reducesTo_S4x17064_S_d0_1 h_S_) (constant S_ .f32 0x358637BD#32))
      = (fun _ => Ideal.div (∑ j : Fin 4, ∑ P : Fin 17064, Q.iouT (a0 W) (a2 W) (a4 W) (a6 W) j P)
        (max (∑ j : Fin 4, ∑ P : Fin 17064, Q.wT (a0 W) (a4 W) (a6 W) j P) Q.eps) : FVec Ideal S_ .f32) := by
  funext i
  refine (regSum (res_main_v155 W) (res_main_v99 W) (res_main_v103 W) (res_main_v107 W) (res_main_v111 W) (res_main_v127 W) (res_main_v132 W)
    (res_main_v137 W) (res_main_v142 W) (res_main_v167 W) i).trans ?_
  have hw : ∀ j P, res_main_v167 W (ix2 j P) = Q.wT (a0 W) (a4 W) (a6 W) j P := fun j P => r167 W j P hl
  refine div_congr (Finset.sum_congr rfl fun j _ => Finset.sum_congr rfl fun P _ => ?_)
    (max_congr (Finset.sum_congr rfl fun j _ => Finset.sum_congr rfl fun P _ => hw j P))
  have h155 : res_main_v155 W (ix2 j P) = _ := r155 j P (res_main_v99 W) (res_main_v103 W) (res_main_v107 W) (res_main_v111 W) (res_main_v127 W) (res_main_v132 W)
    (res_main_v137 W) (res_main_v142 W)
  rw [hw, h155, r99 W j P hl, r103 W j P hl, r107 W j P hl, r111 W j P hl, r127 W j P hl, r132 W j P hl, r137 W j P hl, r142 W j P hl]
  unfold Q.wT Q.iouT Q.iouQ Q.iouS
  split
  · rfl
  · simp

end Cert.Proof.Ref

end
-- ==== Proof.Algebraic.lean ====
module

public import proofs.«01_k».proof.Defs
public import proofs.«01_k».proof.Proof.Claims
public import proofs.«01_k».proof.Proof.KernelIdealBlocks
public import proofs.«01_k».proof.Proof.RefValue
public import proofs.«01_k».proof.Proof.Precondition

@[expose] public section

set_option maxRecDepth 16384

noncomputable section

/-! The kernel's three results are the reference's. -/

namespace Cert.Proof.Claims

open Idealize.ShloMosaic Idealize.ShloMosaic.TcCoe Idealize.ShloMosaic.StableHlo Idealize.SL.Sem
open Cert.Proof Cert.Proof.KernelIdeal

theorem frame_pi_pre [Cert.Pre_labels_and_logits.Facts] : Cert.quiescent_KernelIdeal_pre_labels_and_logits :=
  fun m ρ _ => Cert.Proof.KernelIdeal.frame_all m ρ

theorem frame_ri_pre [Cert.Pre_labels_and_logits.Facts] : Cert.quiescent_ReferenceIdeal_pre_labels_and_logits :=
  fun m ρ _ => frame_ri m ρ trivial

variable (m : (ℓ : Loc Cert.KernelIdeal.nD Cert.KernelIdeal.τ Cert.KernelIdeal.sig) → Buf (Elt Ideal) ℓ) (c : Dev Cert.KernelIdeal.nD)

theorem result0 : result (F := Ideal) (sums m) c (ix2 0 0) = Ideal.div (∑ j : Fin 4, ∑ P : Fin 17064, term m c 0 j P) (Ideal.ofBits .f32 0x4AA6A400#32) := by
  unfold result
  rw [lane0, part_eq]

theorem result1 : result (F := Ideal) (sums m) c (ix2 0 1) = Ideal.div (∑ j : Fin 4, ∑ P : Fin 17064, term m c 1 j P) (max (∑ j : Fin 4, ∑ P : Fin 17064, term m c 2 j P) Q.eps) := by
  unfold result
  rw [lane1, part_eq, part_eq]

theorem result2 : result (F := Ideal) (sums m) c (ix2 0 2) = ∑ j : Fin 4, ∑ P : Fin 17064, term m c 3 j P := by
  unfold result
  rw [lane2, part_eq]

theorem algebraic [Cert.Pre_labels_and_logits.Facts] : Cert.algebraic_KernelIdeal_ReferenceIdeal_pre_labels_and_logits := by
  intro m ρ m' ρ' hpre hagree
  have hp := fun c => Pre.both _ _ _ _ _ _ _ (hpre c)
  refine ⟨fun c _ => result (F := Ideal) (sums m) c (ix2 0 0), fun c _ => result (F := Ideal) (sums m) c (ix2 0 1), fun c _ => result (F := Ideal) (sums m) c (ix2 0 2), ?_, ?_⟩
  · exact (θ_run Cert.KernelIdeal.defs _ _).mono (fun _ h c => ⟨(h c).1.1, (h c).1.2.1, (h c).1.2.2, (h c).2⟩)
      (vpost m ρ (sums m) (blockSums m fun c => (hp c).2))
  · refine (θ_run Cert.ReferenceIdeal.defs _ _).mono (fun _ h c => ?_) (Cert.ReferenceIdeal.Value.run (F := Ideal) m' ρ')
    obtain ⟨h0, h1, h2, hargs⟩ := h c
    obtain ⟨e0, e1, e2, e3, e4, e5, e6⟩ := hagree c
    have E0 : Ref.a0 (launchContents m' c) = g0 m c := e0
    have E1 : Ref.a1 (launchContents m' c) = g1 m c := e1
    have E2 : Ref.a2 (launchContents m' c) = g2 m c := e2
    have E3 : Ref.a3 (launchContents m' c) = g3 m c := e3
    have E4 : Ref.a4 (launchContents m' c) = g4 m c := e4
    have E5 : Ref.a5 (launchContents m' c) = g5 m c := e5
    have E6 : Ref.a6 (launchContents m' c) = g6 m c := e6
    have hl : ∀ i, 1 ≤ (Ref.a5 (launchContents m' c) i).toInt := by rw [E5]; exact (hp c).1
    refine ⟨?_, ?_, ?_, hargs⟩
    · refine h0.trans ((Ref.cls_eq (launchContents m' c)).trans (funext fun _ => ?_))
      refine Eq.trans ?_ (result0 m c).symm
      rw [E0, E1, E4, E5, E6]
      rfl
    · refine h1.trans ((Ref.reg_eq (launchContents m' c) hl).trans (funext fun _ => ?_))
      refine Eq.trans ?_ (result1 m c).symm
      rw [E0, E2, E4, E6]
      rfl
    · refine h2.trans ((Ref.ctr_eq (launchContents m' c) hl).trans (funext fun _ => ?_))
      refine Eq.trans ?_ (result2 m c).symm
      rw [E0, E3, E4, E6]
      rfl

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import proofs.«01_k».proof.Proof.Precondition
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Pre.facts,
  Claims.frame_p, Claims.frame_pi,
  haveI := Pre.facts
  Claims.frame_pi_pre, Claims.frame_ri,
  haveI := Pre.facts
  Claims.frame_ri_pre, Claims.preserves,
  haveI := Pre.facts
  Claims.algebraic⟩

end Cert.Proof

end
